-- ==== Defs.lean ====
def Pre_Kernel (m : (ℓ : Loc Cert.Kernel.nD Cert.Kernel.τ Cert.Kernel.sig) → Buf (Elt Bits) ℓ) : Prop :=
  True

def Pre_Kernel_unique_code [hPre_unique_code : Cert.Pre_unique_code.Facts] (m : (ℓ : Loc Cert.Kernel.nD Cert.Kernel.τ Cert.Kernel.sig) → Buf (Elt Bits) ℓ) : Prop :=
  ∀ c : Dev Cert.Kernel.nD,
    (Cert.Pre_unique_code.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_unique_code : Cert.Pre_unique_code.Facts] (m : (ℓ : Loc Cert.KernelIdeal.nD Cert.KernelIdeal.τ Cert.KernelIdeal.sig) → Buf (Elt Ideal) ℓ) : Prop :=
  ∀ c : Dev Cert.KernelIdeal.nD,
    (Cert.Pre_unique_code.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unique_code [hPre_unique_code : Cert.Pre_unique_code.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unique_code.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel_pre_unique_code [hKernel : Cert.Kernel.Facts] [hPre_unique_code : Cert.Pre_unique_code.Facts] : Prop :=
  ∀ (m : (ℓ : Loc Cert.Kernel.nD Cert.Kernel.τ Cert.Kernel.sig) → Buf (Elt Bits) ℓ) (g : Dev Cert.Kernel.nD → PrngReg), Pre_Kernel_unique_code m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_unique_code : Cert.Pre_unique_code.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_unique_code [hReferenceIdeal : Cert.ReferenceIdeal.Facts] [hPre_unique_code : Cert.Pre_unique_code.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unique_code m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_unique_code : Cert.Pre_unique_code.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v12) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_unique_code : Cert.Pre_unique_code.Facts),
    quiescent_Kernel (hKernel := hKernel)
    ∧ quiescent_Kernel_pre_unique_code (hKernel := hKernel) (hPre_unique_code := hPre_unique_code)
    ∧ quiescent_KernelIdeal (hKernelIdeal := hKernelIdeal) (hPre_unique_code := hPre_unique_code)
    ∧ quiescent_ReferenceIdeal (hReferenceIdeal := hReferenceIdeal)
    ∧ quiescent_ReferenceIdeal_pre_unique_code (hReferenceIdeal := hReferenceIdeal) (hPre_unique_code := hPre_unique_code)
    ∧ preserves_Kernel_KernelIdeal
    ∧ algebraic_KernelIdeal_ReferenceIdeal (hKernelIdeal := hKernelIdeal) (hReferenceIdeal := hReferenceIdeal) (hPre_unique_code := hPre_unique_code)
-- ==== Pre_unique_code.lean ====
abbrev S8x1024x2048 : Shape := ⟨3, ![8, 1024, 2048]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S_ : Shape := ⟨0, ![]⟩
abbrev S64x1 : Shape := ⟨2, ![64, 1]⟩
abbrev S8x2048x64 : Shape := ⟨3, ![8, 2048, 64]⟩
abbrev S8x64x2048 : Shape := ⟨3, ![8, 64, 2048]⟩
abbrev S1x64x1 : Shape := ⟨3, ![1, 64, 1]⟩
abbrev S16384x64 : Shape := ⟨2, ![16384, 64]⟩
abbrev S16384 : Shape := ⟨1, ![16384]⟩
abbrev S16384x1 : Shape := ⟨2, ![16384, 1]⟩
abbrev S1024x1 : Shape := ⟨2, ![1024, 1]⟩
abbrev S16384x1024 : Shape := ⟨2, ![16384, 1024]⟩
abbrev S1x1024 : Shape := ⟨2, ![1, 1024]⟩
abbrev S8x1x2048 : Shape := ⟨3, ![8, 1, 2048]⟩

class Facts : Prop where
  reducesTo_S64x1024_S64_d1 : S64x1024.ReducesTo [1] S64
  h_S_ : 0 < S_.numel
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  transposes_S8x2048x64_S8x64x2048_0_2_1 : S8x2048x64.Transposes [0, 2, 1] S8x64x2048
  bcast_S64_S1x64x1_1 : S64.BroadcastsInDim S1x64x1 (![1] : Fin 1 → Fin S1x64x1.rank)
  bcast_S1x64x1_S8x64x2048_0_1_2 : S1x64x1.BroadcastsInDim S8x64x2048 (![0, 1, 2] : Fin 3 → Fin S8x64x2048.rank)
  transposes_S8x64x2048_S8x2048x64_0_2_1 : S8x64x2048.Transposes [0, 2, 1] S8x2048x64
  shapeCasts_S8x2048x64_S16384x64 : S8x2048x64.ShapeCasts S16384x64
  reducesTo_S16384x64_S16384_d1 : S16384x64.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  reducesTo_S1024x64_S1024_d1 : S1024x64.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S_S16384x64 : S_.BroadcastsInDim S16384x64 (![] : Fin 0 → Fin S16384x64.rank)
  transposes_S1024x64_S64x1024_1_0 : S1024x64.Transposes [1, 0] S64x1024
  bcast_S16384x1_S16384x1024_0_1 : S16384x1.BroadcastsInDim S16384x1024 (![0, 1] : Fin 2 → Fin S16384x1024.rank)
  transposes_S1024x1_S1x1024_1_0 : S1024x1.Transposes [1, 0] S1x1024
  bcast_S1x1024_S16384x1024_0_1 : S1x1024.BroadcastsInDim S16384x1024 (![0, 1] : Fin 2 → Fin S16384x1024.rank)
  reducesTo_S16384x1024_S16384_d1 : S16384x1024.ReducesTo [1] S16384
  natLt_1_32 : 1 < 32
  bcast_S_S16384 : S_.BroadcastsInDim S16384 (![] : Fin 0 → Fin S16384.rank)
  bcast_S_S8x64x2048 : S_.BroadcastsInDim S8x64x2048 (![] : Fin 0 → Fin S8x64x2048.rank)
  shapeCasts_S16384_S8x1x2048 : S16384.ShapeCasts S8x1x2048
  bcast_S8x1x2048_S8x64x2048_0_1_2 : S8x1x2048.BroadcastsInDim S8x64x2048 (![0, 1, 2] : Fin 3 → Fin S8x64x2048.rank)
  dot_S8x1024x2048_S64x1024_S8x2048x64_1_1_02_0_n_n_wf : DotDims.WF S8x1024x2048 S64x1024 S8x2048x64 [1] [1] [0, 2] [0] [] []
  dot_S16384x64_S64x1024_S16384x1024_1_0_0_1_n_n_wf : DotDims.WF S16384x64 S64x1024 S16384x1024 [1] [0] [0] [1] [] []

variable [Facts]

def dot_S8x1024x2048_S64x1024_S8x2048x64_1_1_02_0_n_n : DotDims S8x1024x2048 S64x1024 S8x2048x64 where
  lhsContracting := [1]
  rhsContracting := [1]
  lhsNonContracting := [0, 2]
  rhsNonContracting := [0]
  lhsBatch := []
  rhsBatch := []
  wf := dot_S8x1024x2048_S64x1024_S8x2048x64_1_1_02_0_n_n_wf
def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_norm {F : FTy → Type} [FloatOps F] (arg0 : FVec F S16384x64 .f32) : FVec F S16384x1 .f32 :=
  let v0 : FVec F S16384x64 .f32 := mulf arg0 arg0
  let cst : FVec F S_ .f32 := constant S_ .f32 0x00000000#32
  let v1 : FVec F S16384 .f32 := (fun x v => Host.reduceAdd x v reducesTo_S16384x64_S16384_d1 h_S_) v0 cst
  let v2 : FVec F S16384x1 .f32 := broadcastInDim S16384x1 ![0] bcast_S16384_S16384x1_0 v1
  let v3 : FVec F S16384x1 .f32 := Host.sqrt v2
  v3

def fn_clip {F : FTy → Type} [FloatOps F] (arg0 : FVec F S16384x1 .f32) (arg1 : FVec F S_ .f32) : FVec F S16384x1 .f32 :=
  let v0 : FVec F S_ .f32 := id arg1
  let v1 : FVec F S16384x1 .f32 := broadcastInDim S16384x1 ![] bcast_S_S16384x1 v0
  let v2 : FVec F S16384x1 .f32 := maximumf v1 arg0
  v2

def fn_norm_0 {F : FTy → Type} [FloatOps F] (arg0 : FVec F S1024x64 .f32) : FVec F S1024x1 .f32 :=
  let v0 : FVec F S1024x64 .f32 := mulf arg0 arg0
  let cst : FVec F S_ .f32 := constant S_ .f32 0x00000000#32
  let v1 : FVec F S1024 .f32 := (fun x v => Host.reduceAdd x v reducesTo_S1024x64_S1024_d1 h_S_) v0 cst
  let v2 : FVec F S1024x1 .f32 := broadcastInDim S1024x1 ![0] bcast_S1024_S1024x1_0 v1
  let v3 : FVec F S1024x1 .f32 := Host.sqrt v2
  v3

def fn_clip_1 {F : FTy → Type} [FloatOps F] (arg0 : FVec F S1024x1 .f32) (arg1 : FVec F S_ .f32) : FVec F S1024x1 .f32 :=
  let v0 : FVec F S_ .f32 := id arg1
  let v1 : FVec F S1024x1 .f32 := broadcastInDim S1024x1 ![] bcast_S_S1024x1 v0
  let v2 : FVec F S1024x1 .f32 := maximumf v1 arg0
  v2

def fn_part2 {F : FTy → Type} [FloatOps F] (main_v12 : FVec F S8x64x2048 .f32) (main_v37 : FVec F S16384x1024 .f32) (main_v40 : FVec F S16384x1024 .f32) : IVec S8x64x2048 1 :=
  let main_v41 : IVec S16384x1024 1 := cmpf .oeq main_v37 main_v40
  let main_v42 : IVec S16384x1024 32 := (extui 32 · natLt_1_32) main_v41
  let main_c : IVec S_ 32 := constantI S_ 32 0#32
  let main_v43 : IVec S16384 32 := (fun x v => Host.reduce IntOp.addi x v reducesTo_S16384x1024_S16384_d1 h_S_) main_v42 main_c
  let main_c_6 : IVec S_ 32 := constantI S_ 32 1#32
  let main_v44 : IVec S16384 32 := broadcastInDim S16384 ![] bcast_S_S16384 main_c_6
  let main_v45 : IVec S16384 1 := cmpi .eq main_v43 main_v44
  let main_v46 : FVec F S8x64x2048 .f32 := Host.absf main_v12
  let main_cst_7 : FVec F S_ .f32 := constant S_ .f32 0x7F800000#32
  let main_v47 : FVec F S8x64x2048 .f32 := broadcastInDim S8x64x2048 ![] bcast_S_S8x64x2048 main_cst_7
  let main_v48 : IVec S8x64x2048 1 := cmpf .olt main_v46 main_v47
  let main_v49 : IVec S8x1x2048 1 := shapeCast S8x1x2048 main_v45 shapeCasts_S16384_S8x1x2048
  let main_v50 : IVec S8x64x2048 1 := broadcastInDim S8x64x2048 ![0, 1, 2] bcast_S8x1x2048_S8x64x2048_0_1_2 main_v49
  let main_v51 : IVec S8x64x2048 1 := andi main_v48 main_v50
  main_v51

def fn_part1 {F : FTy → Type} [FloatOps F] (main_arg4 : FVec F S1024x64 .f32) (main_v12 : FVec F S8x64x2048 .f32) (main_v18 : FVec F S16384x64 .f32) (main_v20 : FVec F S1024x1 .f32) : IVec S8x64x2048 1 :=
  let main_v21 : FVec F S1024x64 .f32 := broadcastInDim S1024x64 ![0, 1] bcast_S1024x1_S1024x64_0_1 main_v20
  let main_v22 : FVec F S1024x64 .f32 := Host.divf main_arg4 main_v21
  let main_v23 : FVec F S16384x64 .f32 := mulf main_v18 main_v18
  let main_cst_2 : FVec F S_ .f32 := constant S_ .f32 0x00000000#32
  let main_v24 : FVec F S16384 .f32 := (fun x v => Host.reduceAdd x v reducesTo_S16384x64_S16384_d1 h_S_) main_v23 main_cst_2
  let main_v25 : FVec F S16384x1 .f32 := broadcastInDim S16384x1 ![0] bcast_S16384_S16384x1_0 main_v24
  let main_cst_3 : FVec F S_ .f32 := constant S_ .f32 0x40000000#32
  let main_v26 : FVec F S16384x64 .f32 := broadcastInDim S16384x64 ![] bcast_S_S16384x64 main_cst_3
  let main_v27 : FVec F S16384x64 .f32 := mulf main_v26 main_v18
  let main_v28 : FVec F S64x1024 .f32 := (transpose S64x1024 [1, 0] · transposes_S1024x64_S64x1024_1_0) main_v22
  let main_v29 : FVec F S16384x1024 .f32 := (fun l r => Host.dotGeneral dot_S16384x64_S64x1024_S16384x1024_1_0_0_1_n_n none l r) main_v27 main_v28
  let main_v30 : FVec F S16384x1024 .f32 := broadcastInDim S16384x1024 ![0, 1] bcast_S16384x1_S16384x1024_0_1 main_v25
  let main_v31 : FVec F S16384x1024 .f32 := subf main_v30 main_v29
  let main_v32 : FVec F S1024x64 .f32 := mulf main_v22 main_v22
  let main_cst_4 : FVec F S_ .f32 := constant S_ .f32 0x00000000#32
  let main_v33 : FVec F S1024 .f32 := (fun x v => Host.reduceAdd x v reducesTo_S1024x64_S1024_d1 h_S_) main_v32 main_cst_4
  let main_v34 : FVec F S1024x1 .f32 := broadcastInDim S1024x1 ![0] bcast_S1024_S1024x1_0 main_v33
  let main_v35 : FVec F S1x1024 .f32 := (transpose S1x1024 [1, 0] · transposes_S1024x1_S1x1024_1_0) main_v34
  let main_v36 : FVec F S16384x1024 .f32 := broadcastInDim S16384x1024 ![0, 1] bcast_S1x1024_S16384x1024_0_1 main_v35
  let main_v37 : FVec F S16384x1024 .f32 := addf main_v31 main_v36
  let main_cst_5 : FVec F S_ .f32 := constant S_ .f32 0x7F800000#32
  let main_v38 : FVec F S16384 .f32 := (fun x v => Host.reduce FloatOps.minimumf x v reducesTo_S16384x1024_S16384_d1 h_S_) main_v37 main_cst_5
  let main_v39 : FVec F S16384x1 .f32 := broadcastInDim S16384x1 ![0] bcast_S16384_S16384x1_0 main_v38
  let main_v40 : FVec F S16384x1024 .f32 := broadcastInDim S16384x1024 ![0, 1] bcast_S16384x1_S16384x1024_0_1 main_v39
  fn_part2 (F := F) main_v12 main_v37 main_v40

def fn {F : FTy → Type} [FloatOps F] (main_arg0 : FVec F S8x1024x2048 .f32) (main_arg1 : FVec F S64x1024 .f32) (main_arg2 : FVec F S64 .f32) (main_arg3 : FVec F S64 .f32) (main_arg4 : FVec F S1024x64 .f32) (main_arg5 : FVec F S1024x64 .f32) (main_arg6 : FVec F S1024 .f32) (main_arg7 : FVec F S1024 .f32) : IVec S8x64x2048 1 :=
  let main_v0 : FVec F S64x1024 .f32 := mulf main_arg1 main_arg1
  let main_cst : FVec F S_ .f32 := constant S_ .f32 0x00000000#32
  let main_v1 : FVec F S64 .f32 := (fun x v => Host.reduceAdd x v reducesTo_S64x1024_S64_d1 h_S_) main_v0 main_cst
  let main_v2 : FVec F S64x1 .f32 := broadcastInDim S64x1 ![0] bcast_S64_S64x1_0 main_v1
  let main_v3 : FVec F S64x1 .f32 := Host.sqrt main_v2
  let main_v4 : FVec F S64x1 .f32 := broadcastInDim S64x1 ![0] bcast_S64_S64x1_0 main_arg2
  let main_v5 : FVec F S64x1 .f32 := Host.divf main_v4 main_v3
  let main_v6 : FVec F S64x1024 .f32 := broadcastInDim S64x1024 ![0, 1] bcast_S64x1_S64x1024_0_1 main_v5
  let main_v7 : FVec F S64x1024 .f32 := mulf main_arg1 main_v6
  let main_v8 : FVec F S8x2048x64 .f32 := (fun l r => Host.dotGeneral dot_S8x1024x2048_S64x1024_S8x2048x64_1_1_02_0_n_n none l r) main_arg0 main_v7
  let main_v9 : FVec F S8x64x2048 .f32 := (transpose S8x64x2048 [0, 2, 1] · transposes_S8x2048x64_S8x64x2048_0_2_1) main_v8
  let main_v10 : FVec F S1x64x1 .f32 := broadcastInDim S1x64x1 ![1] bcast_S64_S1x64x1_1 main_arg3
  let main_v11 : FVec F S8x64x2048 .f32 := broadcastInDim S8x64x2048 ![0, 1, 2] bcast_S1x64x1_S8x64x2048_0_1_2 main_v10
  let main_v12 : FVec F S8x64x2048 .f32 := addf main_v9 main_v11
  let main_v13 : FVec F S8x2048x64 .f32 := (transpose S8x2048x64 [0, 2, 1] · transposes_S8x64x2048_S8x2048x64_0_2_1) main_v12
  let main_v14 : FVec F S16384x64 .f32 := shapeCast S16384x64 main_v13 shapeCasts_S8x2048x64_S16384x64
  let main_v15 : FVec F S16384x1 .f32 := fn_norm (F := F) main_v14
  let main_cst_0 : FVec F S_ .f32 := constant S_ .f32 0x2B8CBCCC#32
  let main_v16 : FVec F S16384x1 .f32 := fn_clip (F := F) main_v15 main_cst_0
  let main_v17 : FVec F S16384x64 .f32 := broadcastInDim S16384x64 ![0, 1] bcast_S16384x1_S16384x64_0_1 main_v16
  let main_v18 : FVec F S16384x64 .f32 := Host.divf main_v14 main_v17
  let main_v19 : FVec F S1024x1 .f32 := fn_norm_0 (F := F) main_arg4
  let main_cst_1 : FVec F S_ .f32 := constant S_ .f32 0x2B8CBCCC#32
  let main_v20 : FVec F S1024x1 .f32 := fn_clip_1 (F := F) main_v19 main_cst_1
  fn_part1 (F := F) main_arg4 main_v12 main_v18 main_v20
-- ==== Kernel.lean ====
abbrev S8x1024x2048 : Shape := ⟨3, ![8, 1024, 2048]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S8 : Shape := ⟨1, ![8]⟩
abbrev S8x2048 : Shape := ⟨2, ![8, 2048]⟩
abbrev S8x64x2048 : Shape := ⟨3, ![8, 64, 2048]⟩
abbrev S1x1024x2048 : Shape := ⟨3, ![1, 1024, 2048]⟩
abbrev S1x64x2048 : Shape := ⟨3, ![1, 64, 2048]⟩
abbrev S64x1 : Shape := ⟨2, ![64, 1]⟩
abbrev S1024x1 : Shape := ⟨2, ![1024, 1]⟩
abbrev S1024x2048 : Shape := ⟨2, ![1024, 2048]⟩
abbrev S64x2048 : Shape := ⟨2, ![64, 2048]⟩
abbrev S2048 : Shape := ⟨1, ![2048]⟩
abbrev S1x2048 : Shape := ⟨2, ![1, 2048]⟩
abbrev S1 : Shape := ⟨1, ![1]⟩
abbrev S1x1x1 : Shape := ⟨3, ![1, 1, 1]⟩
abbrev S1x8 : Shape := ⟨2, ![1, 8]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x2048, .f32⟩
  | .hbm, ⟨1, _⟩ => ⟨S64x1024, .f32⟩
  | .hbm, ⟨2, _⟩ => ⟨S64, .f32⟩
  | .hbm, ⟨3, _⟩ => ⟨S64, .f32⟩
  | .hbm, ⟨4, _⟩ => ⟨S1024x64, .f32⟩
  | .hbm, ⟨5, _⟩ => ⟨S1024x64, .f32⟩
  | .hbm, ⟨6, _⟩ => ⟨S1024, .f32⟩
  | .hbm, ⟨7, _⟩ => ⟨S1024, .f32⟩
  | .hbm, ⟨8, _⟩ => ⟨S8x1024x2048, .f32⟩
  | .hbm, ⟨9, _⟩ => ⟨S8, .f32⟩
  | .hbm, ⟨10, _⟩ => ⟨S8, .f32⟩
  | .hbm, ⟨11, _⟩ => ⟨S8x2048, .i32⟩
  | .hbm, ⟨12, _⟩ => ⟨S8x64x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S64x1024, .f32⟩
  | .local _ .vmem, ⟨3, _⟩ => ⟨S64, .f32⟩
  | .local _ .vmem, ⟨4, _⟩ => ⟨S64, .f32⟩
  | .local _ .vmem, ⟨5, _⟩ => ⟨S1024x64, .f32⟩
  | .local _ .vmem, ⟨6, _⟩ => ⟨S1024x64, .f32⟩
  | .local _ .vmem, ⟨7, _⟩ => ⟨S1024, .f32⟩
  | .local _ .vmem, ⟨8, _⟩ => ⟨S1024, .f32⟩
  | .local _ .vmem, ⟨9, _⟩ => ⟨S1x1024x2048, .f32⟩
  | .local _ .vmem, ⟨10, _⟩ => ⟨S1x1024x2048, .f32⟩
  | .local _ .vmem, ⟨11, _⟩ => ⟨S8, .f32⟩
  | .local _ .vmem, ⟨12, _⟩ => ⟨S8, .f32⟩
  | .local _ .vmem, ⟨13, _⟩ => ⟨S8x2048, .i32⟩
  | .local _ .vmem, ⟨14, _⟩ => ⟨S1x64x2048, .f32⟩
  | .local _ .vmem, ⟨15, _⟩ => ⟨S1x64x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2048 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x1024x2048 : Shape := ⟨3, ![8, 1024, 2048]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S_ : Shape := ⟨0, ![]⟩
abbrev S64x1 : Shape := ⟨2, ![64, 1]⟩
abbrev S8x2048x64 : Shape := ⟨3, ![8, 2048, 64]⟩
abbrev S8x64x2048 : Shape := ⟨3, ![8, 64, 2048]⟩
abbrev S1x64x1 : Shape := ⟨3, ![1, 64, 1]⟩
abbrev S16384x64 : Shape := ⟨2, ![16384, 64]⟩
abbrev S16384 : Shape := ⟨1, ![16384]⟩
abbrev S16384x1 : Shape := ⟨2, ![16384, 1]⟩
abbrev S1024x1 : Shape := ⟨2, ![1024, 1]⟩
abbrev S16384x1024 : Shape := ⟨2, ![16384, 1024]⟩
abbrev S1x1024 : Shape := ⟨2, ![1, 1024]⟩
abbrev S8x2048 : Shape := ⟨2, ![8, 2048]⟩
abbrev S8x2048x1 : Shape := ⟨3, ![8, 2048, 1]⟩
abbrev S1 : Shape := ⟨1, ![1]⟩
abbrev S1x1x1 : Shape := ⟨3, ![1, 1, 1]⟩
abbrev S8 : Shape := ⟨1, ![8]⟩
abbrev S8x2048x1024 : Shape := ⟨3, ![8, 2048, 1024]⟩
abbrev S1x1024x1 : Shape := ⟨3, ![1, 1024, 1]⟩

abbrev nBuf : Space → Nat
  | .hbm => 125
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S64x1024, .f32⟩
  | .hbm, ⟨2, _⟩ => ⟨S64, .f32⟩
  | .hbm, ⟨3, _⟩ => ⟨S64, .f32⟩
  | .hbm, ⟨4, _⟩ => ⟨S1024x64, .f32⟩
  | .hbm, ⟨5, _⟩ => ⟨S1024x64, .f32⟩
  | .hbm, ⟨6, _⟩ => ⟨S1024, .f32⟩
  | .hbm, ⟨7, _⟩ => ⟨S1024, .f32⟩
  | .hbm, ⟨8, _⟩ => ⟨S64x1024, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x1, .f32⟩
  | .hbm, ⟨15, _⟩ => ⟨S64x1024, .f32⟩
  | .hbm, ⟨16, _⟩ => ⟨S64x1024, .f32⟩
  | .hbm, ⟨17, _⟩ => ⟨S8x2048x64, .f32⟩
  | .hbm, ⟨18, _⟩ => ⟨S8x64x2048, .f32⟩
  | .hbm, ⟨19, _⟩ => ⟨S1x64x1, .f32⟩
  | .hbm, ⟨20, _⟩ => ⟨S8x64x2048, .f32⟩
  | .hbm, ⟨21, _⟩ => ⟨S8x64x2048, .f32⟩
  | .hbm, ⟨22, _⟩ => ⟨S8x2048x64, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x64, .f32⟩
  | .hbm, ⟨34, _⟩ => ⟨S16384x64, .f32⟩
  | .hbm, ⟨35, _⟩ => ⟨S1024x64, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S1024x1, .f32⟩
  | .hbm, ⟨40, _⟩ => ⟨S_, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x64, .f32⟩
  | .hbm, ⟨45, _⟩ => ⟨S1024x64, .f32⟩
  | .hbm, ⟨46, _⟩ => ⟨S16384x64, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S64x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1024x64, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .i32⟩
  | .hbm, ⟨66, _⟩ => ⟨S_, .f32⟩
  | .hbm, ⟨67, _⟩ => ⟨S_, .i32⟩
  | .hbm, ⟨68, _⟩ => ⟨S16384, .f32⟩
  | .hbm, ⟨69, _⟩ => ⟨S16384, .i32⟩
  | .hbm, ⟨70, _⟩ => ⟨S8x2048, .i32⟩
  | .hbm, ⟨71, _⟩ => ⟨S_, .i32⟩
  | .hbm, ⟨72, _⟩ => ⟨S8x2048, .i32⟩
  | .hbm, ⟨73, _⟩ => ⟨S8x2048, .i1⟩
  | .hbm, ⟨74, _⟩ => ⟨S_, .i32⟩
  | .hbm, ⟨75, _⟩ => ⟨S8x2048, .i32⟩
  | .hbm, ⟨76, _⟩ => ⟨S8x2048, .i32⟩
  | .hbm, ⟨77, _⟩ => ⟨S8x2048, .i32⟩
  | .hbm, ⟨78, _⟩ => ⟨S8x2048x1, .i32⟩
  | .hbm, ⟨79, _⟩ => ⟨S1, .i32⟩
  | .hbm, ⟨80, _⟩ => ⟨S_, .i32⟩
  | .hbm, ⟨81, _⟩ => ⟨S8x2048x1, .i32⟩
  | .hbm, ⟨82, _⟩ => ⟨S8x2048x1, .i1⟩
  | .hbm, ⟨83, _⟩ => ⟨S1x1x1, .i32⟩
  | .hbm, ⟨84, _⟩ => ⟨S8x2048x1, .i32⟩
  | .hbm, ⟨85, _⟩ => ⟨S8x2048x1, .i1⟩
  | .hbm, ⟨86, _⟩ => ⟨S8x2048x1, .i1⟩
  | .hbm, ⟨87, _⟩ => ⟨S_, .i1⟩
  | .hbm, ⟨88, _⟩ => ⟨S8x2048, .i1⟩
  | .hbm, ⟨89, _⟩ => ⟨S8x2048x64, .f32⟩
  | .hbm, ⟨90, _⟩ => ⟨S8x2048x64, .i1⟩
  | .hbm, ⟨91, _⟩ => ⟨S_, .f32⟩
  | .hbm, ⟨92, _⟩ => ⟨S8x2048x64, .f32⟩
  | .hbm, ⟨93, _⟩ => ⟨S8x2048x64, .f32⟩
  | .hbm, ⟨94, _⟩ => ⟨S8x64x2048, .f32⟩
  | .hbm, ⟨95, _⟩ => ⟨S8x64x2048, .f32⟩
  | .hbm, ⟨96, _⟩ => ⟨S8x64x2048, .f32⟩
  | .hbm, ⟨97, _⟩ => ⟨S_, .f32⟩
  | .hbm, ⟨98, _⟩ => ⟨S8, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8x64x2048, .f32⟩
  | .hbm, ⟨103, _⟩ => ⟨S8x64x2048, .f32⟩
  | .hbm, ⟨104, _⟩ => ⟨S_, .f32⟩
  | .hbm, ⟨105, _⟩ => ⟨S8, .f32⟩
  | .hbm, ⟨106, _⟩ => ⟨S_, .f32⟩
  | .hbm, ⟨107, _⟩ => ⟨S8, .f32⟩
  | .hbm, ⟨108, _⟩ => ⟨S8, .f32⟩
  | .hbm, ⟨109, _⟩ => ⟨S8x64x2048, .f32⟩
  | .hbm, ⟨110, _⟩ => ⟨S8x64x2048, .f32⟩
  | .hbm, ⟨111, _⟩ => ⟨S1024x64, .f32⟩
  | .hbm, ⟨112, _⟩ => ⟨S_, .f32⟩
  | .hbm, ⟨113, _⟩ => ⟨S1024, .f32⟩
  | .hbm, ⟨114, _⟩ => ⟨S1024x1, .f32⟩
  | .hbm, ⟨115, _⟩ => ⟨S1024x1, .f32⟩
  | .hbm, ⟨116, _⟩ => ⟨S1024x1, .f32⟩
  | .hbm, ⟨117, _⟩ => ⟨S1024x1, .f32⟩
  | .hbm, ⟨118, _⟩ => ⟨S1024x64, .f32⟩
  | .hbm, ⟨119, _⟩ => ⟨S1024x64, .f32⟩
  | .hbm, ⟨120, _⟩ => ⟨S8x2048x1024, .f32⟩
  | .hbm, ⟨121, _⟩ => ⟨S8x1024x2048, .f32⟩
  | .hbm, ⟨122, _⟩ => ⟨S1x1024x1, .f32⟩
  | .hbm, ⟨123, _⟩ => ⟨S8x1024x2048, .f32⟩
  | .hbm, ⟨124, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_call2_cst : Ref sig .tc := ⟨.hbm, 36, rfl⟩
abbrev main_call2_v1 : Ref sig .tc := ⟨.hbm, 37, rfl⟩
abbrev main_call2_v2 : Ref sig .tc := ⟨.hbm, 38, rfl⟩
abbrev main_v19 : Ref sig .tc := ⟨.hbm, 39, rfl⟩
abbrev main_cst_1 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call4_v0 : Ref sig .tc := ⟨.hbm, 65, rfl⟩
abbrev main_call4_cst : Ref sig .tc := ⟨.hbm, 66, rfl⟩
abbrev main_call4_c : Ref sig .tc := ⟨.hbm, 67, rfl⟩
abbrev main_call4_v1_0 : Ref sig .tc := ⟨.hbm, 68, rfl⟩
abbrev main_v39 : Ref sig .tc := ⟨.hbm, 69, rfl⟩
abbrev main_v40 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_call5_cst : Ref sig .tc := ⟨.hbm, 91, rfl⟩
abbrev main_call5_v15 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_5 : Ref sig .tc := ⟨.hbm, 97, rfl⟩
abbrev main_v45 : Ref sig .tc := ⟨.hbm, 98, rfl⟩
abbrev main_cst_6 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_7 : Ref sig .tc := ⟨.hbm, 104, rfl⟩
abbrev main_v50 : Ref sig .tc := ⟨.hbm, 105, rfl⟩
abbrev main_cst_8 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_9 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩

abbrev nD : Nat := 1
abbrev τ : Topo := Topo.v7x

variable {F : FTy → Type} [FloatOps F]
-- ==== Proof.KernelFrame.lean ====
/- The frame of the kernel as printed for the device: every run leaves the arguments unchanged and every counter at zero.
   Nothing is said here of what the results hold. -/
module

public import proofs.«01_k».proof.Defs
public import proofs.«01_k».proof.Proof.Gen.Kernel.Frame
public import proofs.«01_k».proof.Proof.Gen.Kernel.Skeleton
public import Idealize.ShloMosaic.Lib.Claim
public import Idealize.ShloMosaic.Lib.Pipeline.DatRel
public import Idealize.ShloMosaic.Lib.Pipeline.ArrRel

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 2000000 in
/-- One run of the body: the inputs stay, and the outputs hold something. -/
theorem bodyRun (c : Dev nD) (i : grid0.Coords) (arg1 : Memref sig .tc .vmem S1x1024x2048 .f32) (harg1 : arg1.IsWhole) (arg2 : Memref sig .tc .vmem S64x1024 .f32) (harg2 : arg2.IsWhole) (arg3 : Memref sig .tc .vmem S64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x2048 .f32) (harg9 : arg9.IsWhole) (arg10 : Memref sig .tc .vmem S8 .f32) (harg10 : arg10.IsWhole) (arg11 : Memref sig .tc .vmem S8 .f32) (harg11 : arg11.IsWhole) (arg12 : Memref sig .tc .vmem S8x2048 .i32) (harg12 : arg12.IsWhole) (arg13 : Memref sig .tc .vmem S1x64x2048 .f32) (harg13 : arg13.IsWhole)
    (x0 : Vec F S1x1024x2048 .f32) (x1 : Vec F S64x1024 .f32) (x2 : Vec F S64 .f32) (x3 : Vec F S64 .f32) (x4 : Vec F S1024x64 .f32) (x5 : Vec F S1024x64 .f32) (x6 : Vec F S1024 .f32) (x7 : Vec F S1024 .f32) (y8 : Vec F S1x1024x2048 .f32) (y9 y10 : Vec F S8 .f32) (y11 : Vec F S8x2048 .i32) (y12 : Vec F S1x64x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare y12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y)) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10 arg11 harg11 arg12 harg12 arg13 harg13) K := by
  intro E K
  simp only [cc0__vq_kernel_eq_skeleton]; unfold cc0__vq_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-! ## The proof data -/

/-- The windows whose contents are held to a relation only: the five results. -/
def marks : Fin 13 → Bool := fun w => w.val == 8 || w.val == 9 || w.val == 10 || w.val == 11 || w.val == 12

/-- Nothing is asked of a result window. -/
def rel (c : Dev nD) (w : Fin cfg0.W) (t : Fin cfg0.N) (X : (cfg0.win w).block.Idx → Elt F (cfg0.win w).elt) : Prop := True

/-- The exact part of the proof data: the inputs keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The whole proof data: the exact part with nothing said of the result windows. -/
abbrev rdat (c : Dev nD) : RDat τ (Elt F) Unit ℕ (UR sig nD τ) ℕ cfg0 c := (dats m 0 c).toRRel marks (rel c)

/-- The arrays are what the region finds. -/
theorem A_eq (c : Dev nD) (w : Fin cfg0.W) : (dats m 0 c).A w = V m c (Pipeline.arrRef spec0 w) := by
  dsimp only [dats]

/-- Each input window keeps its block. -/
theorem after0_0 (c : Dev nD) (t : Fin cfg0.N) : (dats m 0 c).after 0 t = iblk m c 0 t := by dsimp only [dats]
/-- Window 1 keeps its block. -/
theorem after0_1 (c : Dev nD) (t : Fin cfg0.N) : (dats m 0 c).after 1 t = iblk m c 1 t := by dsimp only [dats]
/-- Window 2 keeps its block. -/
theorem after0_2 (c : Dev nD) (t : Fin cfg0.N) : (dats m 0 c).after 2 t = iblk m c 2 t := by dsimp only [dats]
/-- Window 3 keeps its block. -/
theorem after0_3 (c : Dev nD) (t : Fin cfg0.N) : (dats m 0 c).after 3 t = iblk m c 3 t := by dsimp only [dats]
/-- Window 4 keeps its block. -/
theorem after0_4 (c : Dev nD) (t : Fin cfg0.N) : (dats m 0 c).after 4 t = iblk m c 4 t := by dsimp only [dats]
/-- Window 5 keeps its block. -/
theorem after0_5 (c : Dev nD) (t : Fin cfg0.N) : (dats m 0 c).after 5 t = iblk m c 5 t := by dsimp only [dats]
/-- Window 6 keeps its block. -/
theorem after0_6 (c : Dev nD) (t : Fin cfg0.N) : (dats m 0 c).after 6 t = iblk m c 6 t := by dsimp only [dats]
/-- Window 7 keeps its block. -/
theorem after0_7 (c : Dev nD) (t : Fin cfg0.N) : (dats m 0 c).after 7 t = iblk m c 7 t := by dsimp only [dats]

/-- Each input window holds its block when the body is called. -/
theorem before0_0 (c : Dev nD) (t : Fin cfg0.N) (d) : (dats m 0 c).before 0 t d = iblk m c 0 t :=
  before0_0_of m (dats m 0 c) (A_eq m c 0) (after0_0 m c) t d
/-- Window 1 holds its block when the body is called. -/
theorem before0_1 (c : Dev nD) (t : Fin cfg0.N) (d) : (dats m 0 c).before 1 t d = iblk m c 1 t :=
  before0_1_of m (dats m 0 c) (A_eq m c 1) (after0_1 m c) t d
/-- Window 2 holds its block when the body is called. -/
theorem before0_2 (c : Dev nD) (t : Fin cfg0.N) (d) : (dats m 0 c).before 2 t d = iblk m c 2 t :=
  before0_2_of m (dats m 0 c) (A_eq m c 2) (after0_2 m c) t d
/-- Window 3 holds its block when the body is called. -/
theorem before0_3 (c : Dev nD) (t : Fin cfg0.N) (d) : (dats m 0 c).before 3 t d = iblk m c 3 t :=
  before0_3_of m (dats m 0 c) (A_eq m c 3) (after0_3 m c) t d
/-- Window 4 holds its block when the body is called. -/
theorem before0_4 (c : Dev nD) (t : Fin cfg0.N) (d) : (dats m 0 c).before 4 t d = iblk m c 4 t :=
  before0_4_of m (dats m 0 c) (A_eq m c 4) (after0_4 m c) t d
/-- Window 5 holds its block when the body is called. -/
theorem before0_5 (c : Dev nD) (t : Fin cfg0.N) (d) : (dats m 0 c).before 5 t d = iblk m c 5 t :=
  before0_5_of m (dats m 0 c) (A_eq m c 5) (after0_5 m c) t d
/-- Window 6 holds its block when the body is called. -/
theorem before0_6 (c : Dev nD) (t : Fin cfg0.N) (d) : (dats m 0 c).before 6 t d = iblk m c 6 t :=
  before0_6_of m (dats m 0 c) (A_eq m c 6) (after0_6 m c) t d
/-- Window 7 holds its block when the body is called. -/
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜rel c 8 t X⌝ ∗ owns (c : Thread nD τ) (st0_8 t) fullShare X)
    ∗ (∃ X, ⌜rel c 9 t X⌝ ∗ owns (c : Thread nD τ) (st0_9 t) fullShare X)
    ∗ (∃ X, ⌜rel c 10 t X⌝ ∗ owns (c : Thread nD τ) (st0_10 t) fullShare X)
    ∗ (∃ X, ⌜rel c 11 t X⌝ ∗ owns (c : Thread nD τ) (st0_11 t) fullShare X)
    ∗ (∃ X, ⌜rel c 12 t X⌝ ∗ owns (c : Thread nD τ) (st0_12 t) fullShare X))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %h8, H8⟩, ⟨%d9, %h9, H9⟩, ⟨%d10, %h10, H10⟩, ⟨%d11, %h11, H11⟩, ⟨%d12, %h12, H12⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d8 d9 d10 d11 d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, ⟨%y8, H8⟩, ⟨%y9, H9⟩, ⟨%y10, H10⟩, ⟨%y11, H11⟩, ⟨%y12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; trivial
  isplitl [H9]
  · iexists _; isplitr; swap; · iexact H9
    ipureintro; trivial
  isplitl [H10]
  · iexists _; isplitr; swap; · iexact H10
    ipureintro; trivial
  isplitl [H11]
  · iexists _; isplitr; swap; · iexact H11
    ipureintro; trivial
  iexists _; isplitr; swap; · iexact H12
  ipureintro; trivial

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    BodyObligationRel (dats (F := F) m 0 c) (defs₀ (F := F)) Variants.none () Set.univ marks (rel c) := fun t => by
  rw [bigSep_W0, bigSep_W0, defs₀_row]
  exact triple_restated (sound_body m c t) rfl .rfl fun _ => .rfl

/-! ## The launch -/

set_option backward.isDefEq.respectTransparency.types false in
/-- Every run ends, with every window's array as the proof data allow and every counter at zero. -/
theorem run_main : θ_run defs (onTc (τ := τ) (main (F := F))) (s₀ m ρ)
    (fun r => RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- Every run of the kernel leaves its arguments unchanged and ends with every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  haveI : ∀ e, Nonempty (Elt F e) := inferInstance
  refine (θ_run defs _ _).mono (fun r h => ⟨fun c => ?_, h.2⟩) (run_main m ρ)
  obtain ⟨after, _, hA⟩ := h.1.exists_exact c
  have hin (w : Fin cfg0.W) (hi : (cfg0.win w).isOut = false) :
      r.2.mem ((cfg0.spec w).arr.view.loc (c.tc : Thread nD τ)) = (dats m 0 c).A w :=
    (hA w).trans (Dat.arrAt_in _ w hi _)
  exact ⟨hin 0 rfl, hin 1 rfl, hin 2 rfl, hin 3 rfl, hin 4 rfl, hin 5 rfl, hin 6 rfl, hin 7 rfl⟩

end Cert.Kernel.Hand

end
-- ==== Proof.KernelBody.lean ====
/- The body of the idealized kernel, run once at a grid point: what each of its thirteen windows holds afterwards, as
   functions of what the eight input windows and the three read-modify-write output windows held before. -/
module

public import proofs.«01_k».proof.Proof.Gen.KernelIdeal.Frame
public import proofs.«01_k».proof.Proof.Gen.KernelIdeal.Skeleton
public import Idealize.ShloMosaic.Lib.Pipeline.Value
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The projected latents of a block: weight-normalised first projection of `hidden`, plus the bias. -/
def blkP (x0 : Vec F S1x1024x2048 .f32) (x1 : Vec F S64x1024 .f32) (x2 x3 : Vec F S64 .f32) : FVec F S64x2048 .f32 :=
  k0_pay9 x1 x2 x0 x3

/-- The codes a block chooses: one row number of the codebook per column. -/
def blkIdx (x0 : Vec F S1x1024x2048 .f32) (x1 : Vec F S64x1024 .f32) (x2 x3 : Vec F S64 .f32) (x4 : Vec F S1024x64 .f32) : IVec S2048 32 :=
  k0_pay11 (k0_pay7 x4) (k0_pay8 x4) (k0_pay9 x1 x2 x0 x3) (k0_pay10 x1 x2 x0 x3)

/-- The chosen codebook rows of a block, one per column. -/
def blkQ (x0 : Vec F S1x1024x2048 .f32) (x1 : Vec F S64x1024 .f32) (x2 x3 : Vec F S64 .f32) (x4 : Vec F S1024x64 .f32) : FVec F S64x2048 .f32 :=
  k0_pay13 x4 (k0_pay7 x4) (k0_pay8 x4) (k0_pay9 x1 x2 x0 x3) (k0_pay10 x1 x2 x0 x3)

/-- The sum of squared differences between a block's latents and its chosen rows. -/
def blkSum (x0 : Vec F S1x1024x2048 .f32) (x1 : Vec F S64x1024 .f32) (x2 x3 : Vec F S64 .f32) (x4 : Vec F S1024x64 .f32) : F .f32 :=
  k0_pay15 x4 (k0_pay7 x4) (k0_pay8 x4) (k0_pay9 x1 x2 x0 x3) (k0_pay10 x1 x2 x0 x3)

/-- The output block: weight-normalised second projection of the chosen rows, plus the bias. -/
def blkOut (x0 : Vec F S1x1024x2048 .f32) (x1 : Vec F S64x1024 .f32) (x2 x3 : Vec F S64 .f32) (x4 x5 : Vec F S1024x64 .f32) (x6 x7 : Vec F S1024 .f32) : FVec F S1x1024x2048 .f32 :=
  k0_pay5 (k0_pay6 x5 x6) (blkQ x0 x1 x2 x3 x4) x7

/-- What the commit-loss window holds afterwards: the lane of this grid point rewritten, the others as found. -/
def newLoss1 (a : BitVec 32) (x0 : Vec F S1x1024x2048 .f32) (x1 : Vec F S64x1024 .f32) (x2 x3 : Vec F S64 .f32) (x4 : Vec F S1024x64 .f32) (y : Vec F S8 .f32) : FVec F S8 .f32 :=
  k0_pay3 a (blkSum x0 x1 x2 x3 x4) y

/-- The same of the codebook-loss window. -/
def newLoss2 (a : BitVec 32) (x0 : Vec F S1x1024x2048 .f32) (x1 : Vec F S64x1024 .f32) (x2 x3 : Vec F S64 .f32) (x4 : Vec F S1024x64 .f32) (y : Vec F S8 .f32) : FVec F S8 .f32 :=
  k0_pay4 a (blkSum x0 x1 x2 x3 x4) y

/-- What the codes window holds afterwards: the row of this grid point rewritten, the others as found. -/
def newIdx (a : BitVec 32) (x0 : Vec F S1x1024x2048 .f32) (x1 : Vec F S64x1024 .f32) (x2 x3 : Vec F S64 .f32) (x4 : Vec F S1024x64 .f32) (y : Vec F S8x2048 .i32) : IVec S8x2048 32 :=
  k0_pay12 a (k0_pay7 x4) (k0_pay8 x4) (k0_pay9 x1 x2 x0 x3) (k0_pay10 x1 x2 x0 x3) y

/-- A whole-array store, read back through the same view. -/
theorem read_store_whole {sig : RefSig} {κ : Kind} {sp : Space} {s : Shape} {e : EltTy} {Val : EltTy → Type}
    (v : View sig κ sp s e) (f : v.ty.Contents Val) {off : Fin s.rank → ℕ} (inb : ∀ a, off a + s.size a ≤ s.size a)
    (hz : off = fun _ => 0) (w : s.Idx → Val e) :
    v.read Val (v.writes Val f [⟨Rect.unit off s.size inb, w⟩]) = w :=
  funext fun y => View.read_writes_cons_unit_of_mem v f inb w [] y y hz fun a => (Nat.zero_add _).symm

/-- A whole-array load reads the contents. -/
theorem load_whole {sig : RefSig} {κ : Kind} {sp : Space} {s : Shape} {e : EltTy} {Val : EltTy → Type}
    {r : Memref sig κ sp s e} (h : r.IsWhole) {off : Fin s.rank → ℕ} (inb : ∀ a, off a + s.size a ≤ s.size a)
    (hz : off = fun _ => 0) (x : s.Idx → Val e) :
    View.readAt Val r.view (Rect.unit off s.size inb).toLoadRect (h.unread x) = x := by
  rw [View.readAt_eq_ld, h.read_unread, View.ld_unit_zero hz]

/-- The literal zero offsets of rank one, two and three. -/
theorem zero1 : (![0] : Fin 1 → ℕ) = fun _ => 0 := funext fun a => by fin_cases a <;> rfl
/-- The same of rank 2. -/
theorem zero2 : (![0, 0] : Fin 2 → ℕ) = fun _ => 0 := funext fun a => by fin_cases a <;> rfl
/-- The same of rank 3. -/
theorem zero3 : (![0, 0, 0] : Fin 3 → ℕ) = fun _ => 0 := funext fun a => by fin_cases a <;> rfl

set_option maxHeartbeats 2000000 in
/-- One run of the body: the inputs stay, the two block outputs hold the point's blocks, and the three
    read-modify-write outputs hold what they held with the point's lane or row rewritten. -/
theorem bodyRun (c : Dev nD) (i : grid0.Coords) (arg1 : Memref sig .tc .vmem S1x1024x2048 .f32) (harg1 : arg1.IsWhole) (arg2 : Memref sig .tc .vmem S64x1024 .f32) (harg2 : arg2.IsWhole) (arg3 : Memref sig .tc .vmem S64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x2048 .f32) (harg9 : arg9.IsWhole) (arg10 : Memref sig .tc .vmem S8 .f32) (harg10 : arg10.IsWhole) (arg11 : Memref sig .tc .vmem S8 .f32) (harg11 : arg11.IsWhole) (arg12 : Memref sig .tc .vmem S8x2048 .i32) (harg12 : arg12.IsWhole) (arg13 : Memref sig .tc .vmem S1x64x2048 .f32) (harg13 : arg13.IsWhole)
    (x0 : Vec F S1x1024x2048 .f32) (x1 : Vec F S64x1024 .f32) (x2 : Vec F S64 .f32) (x3 : Vec F S64 .f32) (x4 : Vec F S1024x64 .f32) (x5 : Vec F S1024x64 .f32) (x6 : Vec F S1024 .f32) (x7 : Vec F S1024 .f32) (y8 : Vec F S1x1024x2048 .f32) (y9 y10 : Vec F S8 .f32) (y11 : Vec F S8x2048 .i32) (y12 : Vec F S1x64x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare y12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blkOut x0 x1 x2 x3 x4 x5 x6 x7) ∗ owns (c : Thread nD τ) arg10 fullShare (newLoss1 (BitVec.ofNat 32 (i 0).val) x0 x1 x2 x3 x4 y9) ∗ owns (c : Thread nD τ) arg11 fullShare (newLoss2 (BitVec.ofNat 32 (i 0).val) x0 x1 x2 x3 x4 y10) ∗ owns (c : Thread nD τ) arg12 fullShare (newIdx (BitVec.ofNat 32 (i 0).val) x0 x1 x2 x3 x4 y11) ∗ owns (c : Thread nD τ) arg13 fullShare (k0_pay14 (blkP x0 x1 x2 x3))) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10 arg11 harg11 arg12 harg12 arg13 harg13) K := by
  intro E K
  simp only [cc0__vq_kernel_eq_skeleton]; unfold cc0__vq_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec
  sl_step
  have e0 := load_whole (Val := Elt F) harg1 inb_S1x1024x2048_S1x1024x2048_0_0_0 zero3 x0
  have e1 := load_whole (Val := Elt F) harg2 inb_S64x1024_S64x1024_0_0 zero2 x1
  have e2 := load_whole (Val := Elt F) harg3 inb_S64_S64_0 zero1 x2
  have e3 := load_whole (Val := Elt F) harg4 inb_S64_S64_0 zero1 x3
  have e4 := load_whole (Val := Elt F) harg5 inb_S1024x64_S1024x64_0_0 zero2 x4
  have e5 := load_whole (Val := Elt F) harg6 inb_S1024x64_S1024x64_0_0 zero2 x5
  have e6 := load_whole (Val := Elt F) harg7 inb_S1024_S1024_0 zero1 x6
  have e7 := load_whole (Val := Elt F) harg8 inb_S1024_S1024_0 zero1 x7
  have e9 := load_whole (Val := Elt F) harg10 inb_S8_S8_0 zero1 y9
  have e10 := load_whole (Val := Elt F) harg11 inb_S8_S8_0 zero1 y10
  have e11 := load_whole (Val := Elt F) harg12 inb_S8x2048_S8x2048_0_0 zero2 y11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (read_store_whole (Val := Elt F) arg9.view _ _ zero3 _).trans ?_
    try delta bodyRun.sl.r_7
    try delta bodyRun.sl.r_6
    try delta bodyRun.sl.r_5
    try delta bodyRun.sl.r_4
    try delta bodyRun.sl.r_3
    try delta bodyRun.sl.r_2
    try delta bodyRun.sl.r_1
    try delta bodyRun.sl.r
    simp only [e0, e1, e2, e3, e4, e5, e6, e7, e9, e10, e11]
    rfl
  isplitl [H9]
  · iexists _; isplitr; swap; · iexact H9
    ipureintro
    refine (read_store_whole (Val := Elt F) arg10.view _ _ zero1 _).trans ?_
    try delta bodyRun.sl.r_7
    try delta bodyRun.sl.r_6
    try delta bodyRun.sl.r_5
    try delta bodyRun.sl.r_4
    try delta bodyRun.sl.r_3
    try delta bodyRun.sl.r_2
    try delta bodyRun.sl.r_1
    try delta bodyRun.sl.r
    simp only [e0, e1, e2, e3, e4, e5, e6, e7, e9, e10, e11]
    rfl
  isplitl [H10]
  · iexists _; isplitr; swap; · iexact H10
    ipureintro
    refine (read_store_whole (Val := Elt F) arg11.view _ _ zero1 _).trans ?_
    try delta bodyRun.sl.r_7
    try delta bodyRun.sl.r_6
    try delta bodyRun.sl.r_5
    try delta bodyRun.sl.r_4
    try delta bodyRun.sl.r_3
    try delta bodyRun.sl.r_2
    try delta bodyRun.sl.r_1
    try delta bodyRun.sl.r
    simp only [e0, e1, e2, e3, e4, e5, e6, e7, e9, e10, e11]
    rfl
  isplitl [H11]
  · iexists _; isplitr; swap; · iexact H11
    ipureintro
    refine (read_store_whole (Val := Elt F) arg12.view _ _ zero2 _).trans ?_
    try delta bodyRun.sl.r_7
    try delta bodyRun.sl.r_6
    try delta bodyRun.sl.r_5
    try delta bodyRun.sl.r_4
    try delta bodyRun.sl.r_3
    try delta bodyRun.sl.r_2
    try delta bodyRun.sl.r_1
    try delta bodyRun.sl.r
    simp only [e0, e1, e2, e3, e4, e5, e6, e7, e9, e10, e11]
    rfl
  · iexists _; isplitr; swap; · iexact H12
    ipureintro
    refine (read_store_whole (Val := Elt F) arg13.view _ _ zero3 _).trans ?_
    try delta bodyRun.sl.r_7
    try delta bodyRun.sl.r_6
    try delta bodyRun.sl.r_5
    try delta bodyRun.sl.r_4
    try delta bodyRun.sl.r_3
    try delta bodyRun.sl.r_2
    try delta bodyRun.sl.r_1
    try delta bodyRun.sl.r
    simp only [e0, e1, e2, e3, e4, e5, e6, e7, e9, e10, e11]
    rfl

end Cert.KernelIdeal.Hand

end
-- ==== Proof.KernelRun.lean ====
/- The launch of the idealized kernel: the body's triple at every grid point, the three read-modify-write windows held to
   what the points so far have written, and what the five result arrays hold at the end of every run. -/
module

public import proofs.«01_k».proof.Proof.KernelBody
public import Idealize.ShloMosaic.Lib.Claim
public import Idealize.ShloMosaic.Lib.Pipeline.DatRel
public import Idealize.ShloMosaic.Lib.Pipeline.ArrRel
public import Idealize.ShloMosaic.Lib.Pipeline.ValueKit.Geometry
public import Idealize.ShloMosaic.Lib.ValueIdx
public import Idealize.ShloMosaic.Lib.ValueLayout
public import Idealize.ShloMosaic.Lib.ValueLayoutCasts

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point contributes -/

/-- The loss of grid point `b`: its mean squared difference. -/
def ptLoss (c : Dev nD) (b : Fin cfg0.N) : F .f32 := k0_pay1 (blkSum (iblk m c 0 b) (iblk m c 1 b) (iblk m c 2 b) (iblk m c 3 b) (iblk m c 4 b))

/-- The codes of grid point `b`. -/
def ptIdx (c : Dev nD) (b : Fin cfg0.N) : IVec S2048 32 := blkIdx (iblk m c 0 b) (iblk m c 1 b) (iblk m c 2 b) (iblk m c 3 b) (iblk m c 4 b)

/-- The output block of grid point `b`. -/
def ptOut (c : Dev nD) (b : Fin cfg0.N) : FVec F S1x1024x2048 .f32 := blkOut (iblk m c 0 b) (iblk m c 1 b) (iblk m c 2 b) (iblk m c 3 b) (iblk m c 4 b) (iblk m c 5 b) (iblk m c 6 b) (iblk m c 7 b)

/-- The projected latents of grid point `b`, as the block stored. -/
def ptProj (c : Dev nD) (b : Fin cfg0.N) : FVec F S1x64x2048 .f32 := k0_pay14 (blkP (iblk m c 0 b) (iblk m c 1 b) (iblk m c 2 b) (iblk m c 3 b))

/-- The coordinate of grid point `t` is `t`. -/
theorem coord_val : ∀ t : Fin cfg0.N, (grid0.coords t 0).val = t.val := by decide +kernel

/-- There are eight grid points. -/
theorem point_lt (t : Fin cfg0.N) : t.val < 8 := lt_of_lt_of_eq t.isLt N_0

/-- The equality mask of two small coordinates, as a choice. -/
theorem select_cmpi_eq {α : Type} {a b : ℕ} (ha : a < 8) (hb : b < 8) (x y : α) :
    Scalar.select (IntOp.cmpi .eq (BitVec.ofNat 32 a) (BitVec.ofNat 32 b)) x y = if a = b then x else y := by
  rw [WordCmp.cmpi_eq_ofNat (by omega) (by omega)]
  by_cases h : a = b
  · rw [if_pos h, decide_eq_true h]; rfl
  · rw [if_neg h, decide_eq_false h]; rfl

/-- Lane `j` of the lane counter holds `j`. -/
theorem pay2_apply (j : S8.Idx) : k0_pay2 j = BitVec.ofNat 32 (j 0).val := by
  unfold k0_pay2
  obtain ⟨a, rfl⟩ : ∃ a : Fin 8, j = ix1 a := ⟨j 0, eq_ix1 j⟩
  exact (shapeCast_1a_a_apply (iota .tc S1x8 32 [1] iota_S1x8_d1_w32) shapeCasts_S1x8_S8 a).trans
    (iota_single_apply .tc S1x8 32 1 iota_S1x8_d1_w32 _)

/-- The commit-loss window afterwards, at a lane. -/
theorem newLoss1_apply (t : Fin cfg0.N) (x0 : Vec F S1x1024x2048 .f32) (x1 : Vec F S64x1024 .f32) (x2 x3 : Vec F S64 .f32)
    (x4 : Vec F S1024x64 .f32) (y : Vec F S8 .f32) (j : S8.Idx) :
    newLoss1 (BitVec.ofNat 32 (grid0.coords t 0).val) x0 x1 x2 x3 x4 y j
      = if (j 0).val = t.val then k0_pay1 (blkSum x0 x1 x2 x3 x4) else y j := by
  unfold newLoss1 k0_pay3
  show Scalar.select (IntOp.cmpi .eq (k0_pay2 j) (BitVec.ofNat 32 (grid0.coords t 0).val)) _ (shapeCast S8 y shapeCasts_S8_S8 j) = _
  rw [pay2_apply, coord_val, shapeCast_self]
  exact select_cmpi_eq (j 0).isLt (point_lt t) _ _

/-- The codebook-loss window afterwards, at a lane. -/
theorem newLoss2_apply (t : Fin cfg0.N) (x0 : Vec F S1x1024x2048 .f32) (x1 : Vec F S64x1024 .f32) (x2 x3 : Vec F S64 .f32)
    (x4 : Vec F S1024x64 .f32) (y : Vec F S8 .f32) (j : S8.Idx) :
    newLoss2 (BitVec.ofNat 32 (grid0.coords t 0).val) x0 x1 x2 x3 x4 y j
      = if (j 0).val = t.val then k0_pay1 (blkSum x0 x1 x2 x3 x4) else y j := by
  unfold newLoss2 k0_pay4
  show Scalar.select (IntOp.cmpi .eq (k0_pay2 j) (BitVec.ofNat 32 (grid0.coords t 0).val)) _ (shapeCast S8 y shapeCasts_S8_S8 j) = _
  rw [pay2_apply, coord_val, shapeCast_self]
  exact select_cmpi_eq (j 0).isLt (point_lt t) _ _

/-- The codes window afterwards, at a row and a column. -/
theorem newIdx_apply (t : Fin cfg0.N) (x0 : Vec F S1x1024x2048 .f32) (x1 : Vec F S64x1024 .f32) (x2 x3 : Vec F S64 .f32)
    (x4 : Vec F S1024x64 .f32) (y : Vec F S8x2048 .i32) (j : S8x2048.Idx) :
    newIdx (BitVec.ofNat 32 (grid0.coords t 0).val) x0 x1 x2 x3 x4 y j
      = if (j 0).val = t.val then blkIdx x0 x1 x2 x3 x4 (ix1 (j 1)) else y j := by
  unfold newIdx k0_pay12 blkIdx
  generalize k0_pay11 (k0_pay7 x4) (k0_pay8 x4) (k0_pay9 x1 x2 x0 x3) (k0_pay10 x1 x2 x0 x3) = v
  show Scalar.select (IntOp.cmpi .eq (iota .tc S8x2048 32 [0] iota_S8x2048_d0_w32 j) (BitVec.ofNat 32 (grid0.coords t 0).val))
    (broadcastTo S8x2048 (shapeCast S1x2048 (shapeCast S1x2048 v shapeCasts_S2048_S1x2048) shapeCasts_S1x2048_S1x2048) broadcasts_S1x2048_S8x2048 j)
    (shapeCast S8x2048 y shapeCasts_S8x2048_S8x2048 j) = _
  rw [iota_single_apply .tc S8x2048 32 0, coord_val, shapeCast_self, shapeCast_self]
  refine (select_cmpi_eq (j 0).isLt (point_lt t) _ _).trans ?_
  obtain ⟨a, b, rfl⟩ : ∃ (a : Fin 8) (b : Fin 2048), j = ix2 a b := ⟨j 0, j 1, eq_ix2 j⟩
  rw [broadcastTo_1b_ab_apply, shapeCast_a_1a_apply]

/-! ## The proof data -/

/-- The windows whose contents are held to a relation: the five results. -/
def marks : Fin 13 → Bool := fun w => w.val == 8 || w.val == 9 || w.val == 10 || w.val == 11 || w.val == 12

/-- What a result window holds after point `t`: the two block outputs the point's block; the three others, at the lane or row
    of every point up to `t`, what that point contributes. -/
def rel (c : Dev nD) (w : Fin cfg0.W) (t : Fin cfg0.N) (X : (cfg0.win w).block.Idx → Elt F (cfg0.win w).elt) : Prop :=
  match w, X with
  | ⟨8, _⟩, X => X = ptOut m c t
  | ⟨9, _⟩, X => ∀ (j : S8.Idx) (b : Fin cfg0.N), (j 0).val = b.val → b.val ≤ t.val → X j = ptLoss m c b
  | ⟨10, _⟩, X => ∀ (j : S8.Idx) (b : Fin cfg0.N), (j 0).val = b.val → b.val ≤ t.val → X j = ptLoss m c b
  | ⟨11, _⟩, X => ∀ (j : S8x2048.Idx) (b : Fin cfg0.N), (j 0).val = b.val → b.val ≤ t.val → X j = ptIdx m c b (ix1 (j 1))
  | ⟨12, _⟩, X => X = ptProj m c t
  | _, _ => True

/-- The exact part of the proof data: the inputs keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The whole proof data: the exact part with the result windows held to `rel`. -/
abbrev rdat (c : Dev nD) : RDat τ (Elt F) Unit ℕ (UR sig nD τ) ℕ cfg0 c := (dats m 0 c).toRRel marks (rel m c)

/-- The arrays are what the region finds. -/
theorem A_eq (c : Dev nD) (w : Fin cfg0.W) : (dats m 0 c).A w = V m c (Pipeline.arrRef spec0 w) := by
  dsimp only [dats]

/-- Each input window keeps its block. -/
theorem after0_0 (c : Dev nD) (t : Fin cfg0.N) : (dats m 0 c).after 0 t = iblk m c 0 t := by dsimp only [dats]
/-- Window 1 keeps its block. -/
theorem after0_1 (c : Dev nD) (t : Fin cfg0.N) : (dats m 0 c).after 1 t = iblk m c 1 t := by dsimp only [dats]
/-- Window 2 keeps its block. -/
theorem after0_2 (c : Dev nD) (t : Fin cfg0.N) : (dats m 0 c).after 2 t = iblk m c 2 t := by dsimp only [dats]
/-- Window 3 keeps its block. -/
theorem after0_3 (c : Dev nD) (t : Fin cfg0.N) : (dats m 0 c).after 3 t = iblk m c 3 t := by dsimp only [dats]
/-- Window 4 keeps its block. -/
theorem after0_4 (c : Dev nD) (t : Fin cfg0.N) : (dats m 0 c).after 4 t = iblk m c 4 t := by dsimp only [dats]
/-- Window 5 keeps its block. -/
theorem after0_5 (c : Dev nD) (t : Fin cfg0.N) : (dats m 0 c).after 5 t = iblk m c 5 t := by dsimp only [dats]
/-- Window 6 keeps its block. -/
theorem after0_6 (c : Dev nD) (t : Fin cfg0.N) : (dats m 0 c).after 6 t = iblk m c 6 t := by dsimp only [dats]
/-- Window 7 keeps its block. -/
theorem after0_7 (c : Dev nD) (t : Fin cfg0.N) : (dats m 0 c).after 7 t = iblk m c 7 t := by dsimp only [dats]

/-- Each input window holds its block when the body is called. -/
theorem before0_0 (c : Dev nD) (t : Fin cfg0.N) (d) : (dats m 0 c).before 0 t d = iblk m c 0 t :=
  before0_0_of m (dats m 0 c) (A_eq m c 0) (after0_0 m c) t d
/-- Window 1 holds its block when the body is called. -/
theorem before0_1 (c : Dev nD) (t : Fin cfg0.N) (d) : (dats m 0 c).before 1 t d = iblk m c 1 t :=
  before0_1_of m (dats m 0 c) (A_eq m c 1) (after0_1 m c) t d
/-- Window 2 holds its block when the body is called. -/
theorem before0_2 (c : Dev nD) (t : Fin cfg0.N) (d) : (dats m 0 c).before 2 t d = iblk m c 2 t :=
  before0_2_of m (dats m 0 c) (A_eq m c 2) (after0_2 m c) t d
/-- Window 3 holds its block when the body is called. -/
theorem before0_3 (c : Dev nD) (t : Fin cfg0.N) (d) : (dats m 0 c).before 3 t d = iblk m c 3 t :=
  before0_3_of m (dats m 0 c) (A_eq m c 3) (after0_3 m c) t d
/-- Window 4 holds its block when the body is called. -/
theorem before0_4 (c : Dev nD) (t : Fin cfg0.N) (d) : (dats m 0 c).before 4 t d = iblk m c 4 t :=
  before0_4_of m (dats m 0 c) (A_eq m c 4) (after0_4 m c) t d
/-- Window 5 holds its block when the body is called. -/
theorem before0_5 (c : Dev nD) (t : Fin cfg0.N) (d) : (dats m 0 c).before 5 t d = iblk m c 5 t :=
  before0_5_of m (dats m 0 c) (A_eq m c 5) (after0_5 m c) t d
/-- Window 6 holds its block when the body is called. -/
theorem before0_6 (c : Dev nD) (t : Fin cfg0.N) (d) : (dats m 0 c).before 6 t d = iblk m c 6 t :=
  before0_6_of m (dats m 0 c) (A_eq m c 6) (after0_6 m c) t d
/-- Window 7 holds its block when the body is called. -/
theorem before0_7 (c : Dev nD) (t : Fin cfg0.N) (d) : (dats m 0 c).before 7 t d = iblk m c 7 t :=
  before0_7_of m (dats m 0 c) (A_eq m c 7) (after0_7 m c) t d

/-- A read-modify-write window, found at a later point, meets the relation of the point before. -/
theorem found (c : Dev nD) (w : Fin cfg0.W) (hm : marks w = true) (hf : ∀ t, (cfg0.win w).fetch t = false)
    (hl : ∀ t : Fin cfg0.N, (cfg0.win w).flush t = true → t.val % 8 = 7) (t : Fin cfg0.N) (ht : t.val ≠ 0) (Y)
    (hY : (rdat m c).Finds w t Y) : rel m c w ⟨t.val - 1, Nat.lt_of_le_of_lt (Nat.sub_le _ _) t.isLt⟩ Y := by
  rcases ((rdat m c).finds_of_pos (hf t) ht Y).mp hY with h | h
  · have := hl _ h
    have h8 := point_lt t
    simp only at this
    omega
  · exact (dats m 0 c).toRRel_leaves hm h

/-- The commit-loss window after point `t`, from what it held before. -/
theorem step9 (c : Dev nD) (t : Fin cfg0.N) (Y : Vec F S8 .f32) (hY : (rdat m c).Finds 9 t Y) :
    rel m c 9 t (newLoss1 (BitVec.ofNat 32 (grid0.coords t 0).val) (iblk m c 0 t) (iblk m c 1 t) (iblk m c 2 t) (iblk m c 3 t) (iblk m c 4 t) Y) := by
  intro j b hj hb
  rw [newLoss1_apply]
  by_cases h : b.val = t.val
  · rw [if_pos (hj.trans h)]
    have : b = t := Fin.ext h
    subst this; rfl
  · rw [if_neg (by rw [hj]; exact h)]
    exact found m c 9 rfl (fun _ => rfl) (fun t h => (flush0_9 t).mp h) t (by omega) Y hY j b hj (by show b.val ≤ t.val - 1; omega)

/-- The codebook-loss window after point `t`, from what it held before. -/
theorem step10 (c : Dev nD) (t : Fin cfg0.N) (Y : Vec F S8 .f32) (hY : (rdat m c).Finds 10 t Y) :
    rel m c 10 t (newLoss2 (BitVec.ofNat 32 (grid0.coords t 0).val) (iblk m c 0 t) (iblk m c 1 t) (iblk m c 2 t) (iblk m c 3 t) (iblk m c 4 t) Y) := by
  intro j b hj hb
  rw [newLoss2_apply]
  by_cases h : b.val = t.val
  · rw [if_pos (hj.trans h)]
    have : b = t := Fin.ext h
    subst this; rfl
  · rw [if_neg (by rw [hj]; exact h)]
    exact found m c 10 rfl (fun _ => rfl) (fun t h => (flush0_10 t).mp h) t (by omega) Y hY j b hj (by show b.val ≤ t.val - 1; omega)

/-- The codes window after point `t`, from what it held before. -/
theorem step11 (c : Dev nD) (t : Fin cfg0.N) (Y : Vec F S8x2048 .i32) (hY : (rdat m c).Finds 11 t Y) :
    rel m c 11 t (newIdx (BitVec.ofNat 32 (grid0.coords t 0).val) (iblk m c 0 t) (iblk m c 1 t) (iblk m c 2 t) (iblk m c 3 t) (iblk m c 4 t) Y) := by
  intro j b hj hb
  rw [newIdx_apply]
  by_cases h : b.val = t.val
  · rw [if_pos (hj.trans h)]
    have : b = t := Fin.ext h
    subst this; rfl
  · rw [if_neg (by rw [hj]; exact h)]
    exact found m c 11 rfl (fun _ => rfl) (fun t h => (flush0_11 t).mp h) t (by omega) Y hY j b hj (by show b.val ≤ t.val - 1; omega)

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜rel m c 8 t X⌝ ∗ owns (c : Thread nD τ) (st0_8 t) fullShare X)
    ∗ (∃ X, ⌜rel m c 9 t X⌝ ∗ owns (c : Thread nD τ) (st0_9 t) fullShare X)
    ∗ (∃ X, ⌜rel m c 10 t X⌝ ∗ owns (c : Thread nD τ) (st0_10 t) fullShare X)
    ∗ (∃ X, ⌜rel m c 11 t X⌝ ∗ owns (c : Thread nD τ) (st0_11 t) fullShare X)
    ∗ (∃ X, ⌜rel m c 12 t X⌝ ∗ owns (c : Thread nD τ) (st0_12 t) fullShare X))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %h8, H8⟩, ⟨%d9, %h9, H9⟩, ⟨%d10, %h10, H10⟩, ⟨%d11, %h11, H11⟩, ⟨%d12, %h12, H12⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) d8 d9 d10 d11 d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; rfl
  isplitl [H9]
  · iexists _; isplitr; swap; · iexact H9
    ipureintro; exact step9 m c t d9 h9
  isplitl [H10]
  · iexists _; isplitr; swap; · iexact H10
    ipureintro; exact step10 m c t d10 h10
  isplitl [H11]
  · iexists _; isplitr; swap; · iexact H11
    ipureintro; exact step11 m c t d11 h11
  iexists _; isplitr; swap; · iexact H12
  ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    BodyObligationRel (dats (F := F) m 0 c) (defs₀ (F := F)) Variants.none () Set.univ marks (rel m c) := fun t => by
  rw [bigSep_W0, bigSep_W0, defs₀_row]
  exact triple_restated (sound_body m c t) rfl .rfl fun _ => .rfl

/-! ## The launch -/

set_option backward.isDefEq.respectTransparency.types false in
/-- Every run ends, with every window's array as the proof data allow and every counter at zero. -/
theorem run_main : θ_run defs (onTc (τ := τ) (main (F := F))) (s₀ m ρ)
    (fun r => RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.KernelValues.lean ====
/- What the five result arrays of the idealized kernel hold at the end of every run, each as a function of the blocks the
   grid points read, and those blocks as functions of the arguments. -/
module

public import proofs.«01_k».proof.Proof.KernelRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat RDat Cfg Window)

variable {F : FTy → Type} [FloatOps F]
variable (m : (ℓ : Loc nD τ sig) → Buf (Elt F) ℓ) (ρ : Dev nD → PrngReg)

/-- The grid point with a given number. -/
def pt (b : Fin 8) : Fin cfg0.N := ⟨b.val, lt_of_lt_of_eq b.isLt N_0.symm⟩

/-- The output array: the block of point `b` at leading coordinate `b`. -/
def resOut (c : Dev nD) : FVec F S8x1024x2048 .f32 := fun j => ptOut m c (pt (j 0)) (ix3 0 (j 1) (j 2))

/-- Both loss arrays: the loss of point `b` at lane `b`. -/
def resLoss (c : Dev nD) : FVec F S8 .f32 := fun j => ptLoss m c (pt (j 0))

/-- The code array: the codes of point `b` in row `b`. -/
def resIdx (c : Dev nD) : IVec S8x2048 32 := fun j => ptIdx m c (pt (j 0)) (ix1 (j 1))

/-- The latent array: the block of point `b` at leading coordinate `b`. -/
def resProj (c : Dev nD) : FVec F S8x64x2048 .f32 := fun j => ptProj m c (pt (j 0)) (ix3 0 (j 1) (j 2))

/-- Window 8 sits at block `t` at point `t`. -/
theorem index8 : ∀ t : Fin cfg0.N, win0_8.index t = ![(grid0.coords t 0).val, 0, 0] :=
  (by decide +kernel : ∀ t : Fin grid0.N, _)

/-- Window 12 sits at block `t` at point `t`. -/
theorem index12 : ∀ t : Fin cfg0.N, win0_12.index t = ![(grid0.coords t 0).val, 0, 0] :=
  (by decide +kernel : ∀ t : Fin grid0.N, _)

/-- Window 0 sits at block `t` at point `t`. -/
theorem index0 : ∀ t : Fin cfg0.N, win0_0.index t = ![(grid0.coords t 0).val, 0, 0] :=
  (by decide +kernel : ∀ t : Fin grid0.N, _)

/-- An index with a leading coordinate of one, spelled out. -/
theorem eq_lead {n1 n2 : ℕ} (y : (⟨3, ![1, n1, n2]⟩ : Shape).Idx) : ix3 0 (y 1) (y 2) = y := by
  have h0 : (0 : Fin 1) = y 0 := Subsingleton.elim (α := Fin 1) _ _
  exact (congrArg (fun a : Fin 1 => ix3 a (y 1) (y 2)) h0).trans (eq_ix3 y).symm

/-- The output array, from what the body left in its window at every point. -/
theorem arr8 (c : Dev nD) (dat : Dat τ (Elt F) Unit ℕ (UR sig nD τ) ℕ cfg0 c) (h : ∀ t, dat.after 8 t = ptOut m c t) :
    dat.arrAt 8 cfg0.N = resOut m c := by
  refine dat.arrAt_eq_of_covers 8 _ (by decide +kernel) fun t hf y => ?_
  rw [h]
  blk_simp [index8]
  have e : (win0_8.blk t).view.emb y = ix3 (⟨t.val, point_lt t⟩ : Fin 8) (y 1) (y 2) := by blk_ext [index8, coord_val]
  rw [e]
  exact congrArg (ptOut m c t) (eq_lead (n1 := 1024) (n2 := 2048) y).symm

/-- The latent array, from what the body left in its window at every point. -/
theorem arr12 (c : Dev nD) (dat : Dat τ (Elt F) Unit ℕ (UR sig nD τ) ℕ cfg0 c) (h : ∀ t, dat.after 12 t = ptProj m c t) :
    dat.arrAt 12 cfg0.N = resProj m c := by
  refine dat.arrAt_eq_of_covers 12 _ (by decide +kernel) fun t hf y => ?_
  rw [h]
  blk_simp [index12]
  have e : (win0_12.blk t).view.emb y = ix3 (⟨t.val, point_lt t⟩ : Fin 8) (y 1) (y 2) := by blk_ext [index12, coord_val]
  rw [e]
  exact congrArg (ptProj m c t) (eq_lead (n1 := 64) (n2 := 2048) y).symm

/-- The last grid point. -/
def last : Fin cfg0.N := pt 7

/-- The first loss array, from what the body left in its window at the last point. -/
theorem arr9 (c : Dev nD) (dat : Dat τ (Elt F) Unit ℕ (UR sig nD τ) ℕ cfg0 c) (h : rel m c 9 last (dat.after 9 last)) :
    dat.arrAt 9 cfg0.N = resLoss m c := by
  refine dat.arrAt_eq_of_after_last 9 last (by decide +kernel) _ fun j => ?_
  blk_simp
  have hj : (j 0).val < 8 := (j 0).isLt
  exact h _ (pt ⟨(j 0).val, hj⟩) rfl (Nat.le_of_lt_succ hj)

/-- The second loss array likewise. -/
theorem arr10 (c : Dev nD) (dat : Dat τ (Elt F) Unit ℕ (UR sig nD τ) ℕ cfg0 c) (h : rel m c 10 last (dat.after 10 last)) :
    dat.arrAt 10 cfg0.N = resLoss m c := by
  refine dat.arrAt_eq_of_after_last 10 last (by decide +kernel) _ fun j => ?_
  blk_simp
  have hj : (j 0).val < 8 := (j 0).isLt
  exact h _ (pt ⟨(j 0).val, hj⟩) rfl (Nat.le_of_lt_succ hj)

/-- The code array likewise. -/
theorem arr11 (c : Dev nD) (dat : Dat τ (Elt F) Unit ℕ (UR sig nD τ) ℕ cfg0 c) (h : rel m c 11 last (dat.after 11 last)) :
    dat.arrAt 11 cfg0.N = resIdx m c := by
  refine dat.arrAt_eq_of_after_last 11 last (by decide +kernel) _ fun j => ?_
  blk_simp
  have hj : (j 0).val < 8 := (j 0).isLt
  exact h _ (pt ⟨(j 0).val, hj⟩) rfl (Nat.le_of_lt_succ hj)

/-- Every run of the idealized kernel ends with its arguments unchanged, its five results as named, and every counter at
    zero. -/
theorem run_values : θ_run defs (onTc (τ := τ) (main (F := F))) ⟨m, fun _ => 0, ρ⟩ (fun r => (∀ c : Dev nD,
      r.2.mem ((c.tc : Thread nD τ).loc main_v0_0) = resOut m c
      ∧ r.2.mem ((c.tc : Thread nD τ).loc main_v0_1) = resLoss m c
      ∧ r.2.mem ((c.tc : Thread nD τ).loc main_v0_2) = resLoss m c
      ∧ r.2.mem ((c.tc : Thread nD τ).loc main_v0_3) = resIdx m c
      ∧ r.2.mem ((c.tc : Thread nD τ).loc main_v0_4) = resProj m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  haveI : ∀ e, Nonempty (Elt F e) := inferInstance
  refine (θ_run defs _ _).mono (fun r h => ⟨fun c => ?_, h.2⟩) (run_main m ρ)
  obtain ⟨after, hL, hA⟩ := h.1.exists_exact c
  have hl (w : Fin cfg0.W) (t : Fin cfg0.N) (hm : marks w = true) (hf : (cfg0.win w).flush t = true) : rel m c w t (after w t) :=
    Dat.toRRel_leaves _ hm (hL w t hf)
  have hin (w : Fin cfg0.W) (hi : (cfg0.win w).isOut = false) :
      r.2.mem ((cfg0.spec w).arr.view.loc (c.tc : Thread nD τ)) = (dats m 0 c).A w :=
    (hA w).trans (Dat.arrAt_in _ w hi _)
  refine ⟨(hA 8).trans (arr8 m c _ fun t => hl 8 t rfl (flush0_8 t)),
    (hA 9).trans (arr9 m c _ (hl 9 last rfl ((flush0_9 _).2 rfl))),
    (hA 10).trans (arr10 m c _ (hl 10 last rfl ((flush0_10 _).2 rfl))),
    (hA 11).trans (arr11 m c _ (hl 11 last rfl ((flush0_11 _).2 rfl))),
    (hA 12).trans (arr12 m c _ fun t => hl 12 t rfl (flush0_12 t)),
    hin 0 rfl, hin 1 rfl, hin 2 rfl, hin 3 rfl, hin 4 rfl, hin 5 rfl, hin 6 rfl, hin 7 rfl⟩

/-! ## The blocks the points read -/

/-- Point `b` reads slice `b` of the first argument. -/
theorem iblk0_at (c : Dev nD) (b : Fin 8) (k : Fin 1024) (t : Fin 2048) :
    iblk m c 0 (pt b) (ix3 0 k t) = m ((c.tc : Thread nD τ).loc main_arg0) (ix3 b k t) := by
  unfold iblk
  blk_simp [index0]
  blk_ext [V, index0, coord_val]
  rfl

/-- Window 1 never moves. -/
theorem index1 : ∀ t : Fin cfg0.N, win0_1.index t = ![0, 0] :=
  (by decide +kernel : ∀ t : Fin grid0.N, _)

/-- Every point reads argument 1 whole. -/
theorem iblk1_eq (c : Dev nD) (t : Fin cfg0.N) : iblk m c 1 t = m ((c.tc : Thread nD τ).loc main_arg1) := by
  funext y
  unfold iblk
  blk_simp [index1]
  blk_ext [V, index1]

/-- Window 2 never moves. -/
theorem index2 : ∀ t : Fin cfg0.N, win0_2.index t = ![0] :=
  (by decide +kernel : ∀ t : Fin grid0.N, _)

/-- Every point reads argument 2 whole. -/
theorem iblk2_eq (c : Dev nD) (t : Fin cfg0.N) : iblk m c 2 t = m ((c.tc : Thread nD τ).loc main_arg2) := by
  funext y
  unfold iblk
  blk_simp [index2]
  blk_ext [V, index2]

/-- Window 3 never moves. -/
theorem index3 : ∀ t : Fin cfg0.N, win0_3.index t = ![0] :=
  (by decide +kernel : ∀ t : Fin grid0.N, _)

/-- Every point reads argument 3 whole. -/
theorem iblk3_eq (c : Dev nD) (t : Fin cfg0.N) : iblk m c 3 t = m ((c.tc : Thread nD τ).loc main_arg3) := by
  funext y
  unfold iblk
  blk_simp [index3]
  blk_ext [V, index3]

/-- Window 4 never moves. -/
theorem index4 : ∀ t : Fin cfg0.N, win0_4.index t = ![0, 0] :=
  (by decide +kernel : ∀ t : Fin grid0.N, _)

/-- Every point reads argument 4 whole. -/
theorem iblk4_eq (c : Dev nD) (t : Fin cfg0.N) : iblk m c 4 t = m ((c.tc : Thread nD τ).loc main_arg4) := by
  funext y
  unfold iblk
  blk_simp [index4]
  blk_ext [V, index4]

/-- Window 5 never moves. -/
theorem index5 : ∀ t : Fin cfg0.N, win0_5.index t = ![0, 0] :=
  (by decide +kernel : ∀ t : Fin grid0.N, _)

/-- Every point reads argument 5 whole. -/
theorem iblk5_eq (c : Dev nD) (t : Fin cfg0.N) : iblk m c 5 t = m ((c.tc : Thread nD τ).loc main_arg5) := by
  funext y
  unfold iblk
  blk_simp [index5]
  blk_ext [V, index5]

/-- Window 6 never moves. -/
theorem index6 : ∀ t : Fin cfg0.N, win0_6.index t = ![0] :=
  (by decide +kernel : ∀ t : Fin grid0.N, _)

/-- Every point reads argument 6 whole. -/
theorem iblk6_eq (c : Dev nD) (t : Fin cfg0.N) : iblk m c 6 t = m ((c.tc : Thread nD τ).loc main_arg6) := by
  funext y
  unfold iblk
  blk_simp [index6]
  blk_ext [V, index6]

/-- Window 7 never moves. -/
theorem index7 : ∀ t : Fin cfg0.N, win0_7.index t = ![0] :=
  (by decide +kernel : ∀ t : Fin grid0.N, _)

/-- Every point reads argument 7 whole. -/
theorem iblk7_eq (c : Dev nD) (t : Fin cfg0.N) : iblk m c 7 t = m ((c.tc : Thread nD τ).loc main_arg7) := by
  funext y
  unfold iblk
  blk_simp [index7]
  blk_ext [V, index7]

end Cert.KernelIdeal.Hand
-- ==== Proof.Spec.lean ====
/- The mathematics both programs compute, written over the extended reals with plain indices: weight-normalised
   projections, normalised rows, squared distances, the nearest codebook row, and what follows from it. -/
module

public import Idealize.ShloMosaic.Lib.Pointwise
public import Idealize.ShloMosaic.Lib.ValueIdx

@[expose] public section

noncomputable section

namespace Cert.Spec

open Idealize.ShloMosaic Idealize.ShloMosaic.ValueIdx
open scoped BigOperators

/-- The floor under a norm: the 32-bit float nearest to 1e-12. -/
def eps : EReal := Ideal.ofBits .f32 0x2B8CBCCC#32

/-- The constant two. -/
def two : EReal := Ideal.ofBits .f32 0x40000000#32

/-- The number of entries of one latent block, 64 * 2048. -/
def entries : EReal := Ideal.ofBits .f32 0x48000000#32

/-- A weight-normalised matrix: each row of `v` scaled by `g` over the row's Euclidean norm. -/
def weight {n k : ℕ} (v : Fin n → Fin k → EReal) (g : Fin n → EReal) (i : Fin n) (j : Fin k) : EReal :=
  v i j * Ideal.div (g i) (Ideal.sqrt (∑ l, v i l * v i l))

/-- A vector over its Euclidean norm, the norm held above `eps`. -/
def normed {k : ℕ} (x : Fin k → EReal) (j : Fin k) : EReal :=
  Ideal.div (x j) (max (Ideal.sqrt (∑ l, x l * x l)) eps)

/-- The projected latent of one batch element, at coordinate `d` and time `t`. -/
def latent (x : Fin 1024 → Fin 2048 → EReal) (v : Fin 64 → Fin 1024 → EReal) (g b : Fin 64 → EReal)
    (d : Fin 64) (t : Fin 2048) : EReal :=
  (∑ k, weight v g d k * x k t) + b d

/-- The squared distance of the normalised vector `e` from the normalised codebook row `k`, expanded. -/
def dist (e : Fin 64 → EReal) (cb : Fin 1024 → Fin 64 → EReal) (k : Fin 1024) : EReal :=
  ((∑ d, normed e d * normed e d) - two * ∑ d, normed (cb k) d * normed e d)
    + ∑ d, normed (cb k) d * normed (cb k) d

/-- `k` is the first place at which `f` is least. -/
def FirstMin {n : ℕ} (f : Fin n → EReal) (k : Fin n) : Prop :=
  ∀ k', f k < f k' ∨ (f k = f k' ∧ k.val ≤ k'.val)

/-- There is only one such place. -/
theorem FirstMin.unique {n : ℕ} {f : Fin n → EReal} {k l : Fin n} (hk : FirstMin f k) (hl : FirstMin f l) : k = l := by
  apply Fin.ext
  rcases hk l with h | ⟨h, h1⟩
  · rcases hl k with h' | ⟨h', _⟩
    · exact absurd h' (not_lt.2 h.le)
    · exact absurd h (by rw [h']; exact lt_irrefl _)
  · rcases hl k with h' | ⟨_, h2⟩
    · exact absurd h' (by rw [h]; exact lt_irrefl _)
    · exact le_antisymm h1 h2

/-- A function equal everywhere is first least at the same place. -/
theorem FirstMin.congr {n : ℕ} {f g : Fin n → EReal} {k : Fin n} (h : ∀ k, f k = g k) (hg : FirstMin g k) : FirstMin f k := by
  rwa [show f = g from funext h]

/-- There is such a place whenever there is any place at all. -/
theorem FirstMin.exists {n : ℕ} (f : Fin (n + 1) → EReal) : ∃ k, FirstMin f k := by
  classical
  obtain ⟨k0, -, h0⟩ := Finset.exists_min_image (Finset.univ : Finset (Fin (n + 1))) f ⟨0, Finset.mem_univ _⟩
  obtain ⟨k, hk, h⟩ := Finset.exists_min_image ((Finset.univ : Finset (Fin (n + 1))).filter fun k => f k = f k0)
    (fun k => k.val) ⟨k0, by simp⟩
  have hk' : f k = f k0 := by simpa using hk
  refine ⟨k, fun k' => ?_⟩
  rcases (h0 k' (Finset.mem_univ _)).lt_or_eq with h1 | h1
  · exact .inl (hk' ▸ h1)
  · exact .inr ⟨hk'.trans h1, h k' (by simp [h1])⟩

/-- The code of a latent column: the first nearest codebook row. -/
def code (e : Fin 64 → EReal) (cb : Fin 1024 → Fin 64 → EReal) : Fin 1024 :=
  (FirstMin.exists (dist e cb)).choose

/-- The code is the first nearest row. -/
theorem code_spec (e : Fin 64 → EReal) (cb : Fin 1024 → Fin 64 → EReal) : FirstMin (dist e cb) (code e cb) :=
  (FirstMin.exists (dist e cb)).choose_spec

/-- The mean of the squared differences of a latent block and the rows chosen for it. -/
def loss (p : Fin 64 → Fin 2048 → EReal) (cb : Fin 1024 → Fin 64 → EReal) : EReal :=
  Ideal.div (∑ d, ∑ t, (p d t - cb (code (fun d => p d t) cb) d) * (p d t - cb (code (fun d => p d t) cb) d)) entries

/-- The output of one batch element: the second projection of the rows chosen for its latent block. -/
def out (p : Fin 64 → Fin 2048 → EReal) (cb : Fin 1024 → Fin 64 → EReal) (v : Fin 1024 → Fin 64 → EReal)
    (g b : Fin 1024 → EReal) (l : Fin 1024) (t : Fin 2048) : EReal :=
  (∑ d, weight v g l d * cb (code (fun d => p d t) cb) d) + b l

end Cert.Spec
-- ==== Proof.KernelMath.lean ====
/- What one grid point of the idealized kernel computes, at an index, over the extended reals. -/
module

public import proofs.«01_k».proof.Proof.KernelBody
public import proofs.«01_k».proof.Proof.Spec

@[expose] public section

set_option maxRecDepth 16384

noncomputable section

namespace Cert.KernelIdeal.Hand

open Cert.KernelIdeal.Gen Cert.Spec
open Idealize.ShloMosaic
open scoped BigOperators

/-- The normalised codebook at an index. -/
theorem pay7_at (cb : FVec Ideal S1024x64 .f32) (k : Fin 1024) (d : Fin 64) :
    k0_pay7 (F := Ideal) cb (ix2 k d) = normed (fun d => cb (ix2 k d)) d := by
  unfold_payloads
  pointwise
  rfl

/-- The squared norms of the normalised codebook rows. -/
theorem pay8_at (cb : FVec Ideal S1024x64 .f32) (k : Fin 1024) :
    k0_pay8 (F := Ideal) cb (ix2 k 0) = ∑ d, normed (fun d => cb (ix2 k d)) d * normed (fun d => cb (ix2 k d)) d := by
  unfold_payloads
  pointwise
  rfl

/-- The projected latents of a block at an index. -/
theorem blkP_at (x0 : FVec Ideal S1x1024x2048 .f32) (x1 : FVec Ideal S64x1024 .f32) (x2 x3 : FVec Ideal S64 .f32) (d : Fin 64) (t : Fin 2048) :
    blkP (F := Ideal) x0 x1 x2 x3 (ix2 d t)
      = latent (fun k t => x0 (ix3 0 k t)) (fun d k => x1 (ix2 d k)) (fun d => x2 (ix1 d)) (fun d => x3 (ix1 d)) d t := by
  unfold blkP
  unfold_payloads
  pointwise
  rfl

/-- The place of the least entry along the first axis of a matrix, as a word: the first such place. -/
theorem argMin_at {n0 n1 : ℕ} (h : (⟨2, ![n0, n1]⟩ : Shape).Reduces [0] ⟨1, ![n1]⟩) (v : (⟨2, ![n0, n1]⟩ : Shape).Idx → EReal)
    (t : Fin n1) (c : Fin n0) (hc : FirstMin (fun k => v (ix2 k t)) c) :
    Ideal.reduceIndex .argMin 0 h v (ix1 t) = BitVec.ofNat 32 c.val := by
  classical
  have hfib : ∀ i : (⟨2, ![n0, n1]⟩ : Shape).Idx, h.drop i = ix1 t ↔ ∃ k : Fin n0, ix2 k t = i := fun i => h.fiber_r2_a0 (ix1 t) i
  unfold Ideal.reduceIndex
  refine congrArg (BitVec.ofNat 32) ?_
  generalize hS : (Finset.image _ _ : Finset ℕ) = S
  have hin : ∀ m, m ∈ S ↔ ∃ k : Fin n0, k.val = m ∧ ∀ k', ¬ v (ix2 k' t) < v (ix2 k t) := by
    intro m
    rw [← hS]
    simp only [Finset.mem_image, Finset.mem_filter, Finset.mem_univ, true_and, hfib]
    constructor
    · rintro ⟨i, ⟨⟨k, rfl⟩, hi⟩, rfl⟩
      exact ⟨k, rfl, fun k' => by simpa using hi _ ⟨k', rfl⟩⟩
    · rintro ⟨k, rfl, hk⟩
      exact ⟨ix2 k t, ⟨⟨k, rfl⟩, by rintro _ ⟨k', rfl⟩; simpa using hk k'⟩, rfl⟩
  have hc' : c.val ∈ S := (hin _).2 ⟨c, rfl, fun k' hlt => by
    rcases hc k' with h1 | ⟨h1, _⟩
    · exact absurd hlt (not_lt.2 h1.le)
    · exact absurd hlt (by rw [show v (ix2 k' t) = v (ix2 c t) from h1.symm]; exact lt_irrefl _)⟩
  obtain ⟨m, hm⟩ := Finset.min_of_mem hc'
  have hmS := Finset.mem_of_min hm
  have hle : m ≤ c.val := Finset.min_le_of_eq hc' hm
  obtain ⟨k, rfl, hk⟩ := (hin _).1 hmS
  have : c.val ≤ k.val := by
    rcases hc k with h1 | ⟨_, h1⟩
    · exact absurd h1 (hk c)
    · exact h1
  rw [hm]
  exact le_antisymm hle this

/-- The code a block chooses for a column: the first nearest codebook row. -/
theorem blkIdx_at (x0 : FVec Ideal S1x1024x2048 .f32) (x1 : FVec Ideal S64x1024 .f32) (x2 x3 : FVec Ideal S64 .f32) (cb : FVec Ideal S1024x64 .f32) (t : Fin 2048) :
    blkIdx (F := Ideal) x0 x1 x2 x3 cb (ix1 t)
      = BitVec.ofNat 32 (code (fun d => blkP (F := Ideal) x0 x1 x2 x3 (ix2 d t)) (fun k d => cb (ix2 k d))).val := by
  unfold blkIdx k0_pay11
  refine argMin_at _ _ t _ (FirstMin.congr (fun k => ?_) (code_spec _ _))
  unfold k0_pay10
  pointwise
  simp only [pay7_at, pay8_at]
  rfl

/-- The chosen rows of a block: row `code` of the codebook in every column. -/
theorem blkQ_at (x0 : FVec Ideal S1x1024x2048 .f32) (x1 : FVec Ideal S64x1024 .f32) (x2 x3 : FVec Ideal S64 .f32) (cb : FVec Ideal S1024x64 .f32) (d : Fin 64) (t : Fin 2048) :
    blkQ (F := Ideal) x0 x1 x2 x3 cb (ix2 d t)
      = cb (ix2 (code (fun d => blkP (F := Ideal) x0 x1 x2 x3 (ix2 d t)) (fun k d => cb (ix2 k d))) d) := by
  have hi := blkIdx_at x0 x1 x2 x3 cb t
  unfold blkIdx at hi
  unfold blkQ k0_pay13
  generalize k0_pay11 (F := Ideal) (k0_pay7 (F := Ideal) cb) (k0_pay8 (F := Ideal) cb) (k0_pay9 (F := Ideal) x1 x2 x0 x3) (k0_pay10 (F := Ideal) x1 x2 x0 x3) = w at hi ⊢
  pointwise
  rw [hi]
  generalize code (fun d => blkP (F := Ideal) x0 x1 x2 x3 (ix2 d t)) (fun k d => cb (ix2 k d)) = c
  have hw : ∀ x : Fin 1024, FloatOps.sitofp (F := Ideal) FTy.f32 (BitVec.setWidth 32 (IntOp.cmpi .eq (BitVec.ofNat 32 x.val) (BitVec.ofNat 32 c.val)))
      = if x = c then (1 : EReal) else 0 := by
    intro x
    rw [WordCmp.cmpi_eq_ofNat (by have := x.isLt; omega) (by have := c.isLt; omega)]
    change (((BitVec.setWidth 32 (BitVec.ofBool (decide (x.val = c.val)))).toInt : ℝ) : EReal) = _
    by_cases hx : x = c
    · subst hx; simp
    · simp [hx, show ¬ x.val = c.val from fun h => hx (Fin.ext h)]
  refine (Finset.sum_congr rfl fun x _ => by rw [hw x]).trans ?_
  rw [Finset.sum_eq_single c]
  · simp
  · intro x _ hx; simp [hx]
  · intro h; exact absurd (Finset.mem_univ _) h

/-- The sum of squared differences of a block. -/
theorem blkSum_at (x0 : FVec Ideal S1x1024x2048 .f32) (x1 : FVec Ideal S64x1024 .f32) (x2 x3 : FVec Ideal S64 .f32) (cb : FVec Ideal S1024x64 .f32) :
    blkSum (F := Ideal) x0 x1 x2 x3 cb
      = ∑ d : Fin 64, ∑ t : Fin 2048, (blkP (F := Ideal) x0 x1 x2 x3 (ix2 d t) - blkQ (F := Ideal) x0 x1 x2 x3 cb (ix2 d t))
          * (blkP (F := Ideal) x0 x1 x2 x3 (ix2 d t) - blkQ (F := Ideal) x0 x1 x2 x3 cb (ix2 d t)) := by
  unfold blkSum k0_pay15
  unfold blkP blkQ
  generalize k0_pay13 (F := Ideal) cb (k0_pay7 (F := Ideal) cb) (k0_pay8 (F := Ideal) cb) (k0_pay9 (F := Ideal) x1 x2 x0 x3) (k0_pay10 (F := Ideal) x1 x2 x0 x3) = q
  generalize k0_pay9 (F := Ideal) x1 x2 x0 x3 = p
  pointwise

/-- The output block at an index. -/
theorem blkOut_at (x0 : FVec Ideal S1x1024x2048 .f32) (x1 : FVec Ideal S64x1024 .f32) (x2 x3 : FVec Ideal S64 .f32) (cb x5 : FVec Ideal S1024x64 .f32)
    (x6 x7 : FVec Ideal S1024 .f32) (l : Fin 1024) (t : Fin 2048) :
    blkOut (F := Ideal) x0 x1 x2 x3 cb x5 x6 x7 (ix3 0 l t)
      = (∑ d, weight (fun l d => x5 (ix2 l d)) (fun l => x6 (ix1 l)) l d * blkQ (F := Ideal) x0 x1 x2 x3 cb (ix2 d t)) + x7 (ix1 l) := by
  unfold blkOut k0_pay5 k0_pay6
  generalize blkQ (F := Ideal) x0 x1 x2 x3 cb = q
  pointwise
  rfl

end Cert.KernelIdeal.Hand
-- ==== Proof.KernelSpec.lean ====
/- The five results of the idealized kernel, at an index, over the extended reals. -/
module

public import proofs.«01_k».proof.Proof.KernelValues
public import proofs.«01_k».proof.Proof.KernelMath

@[expose] public section

set_option maxRecDepth 16384

noncomputable section

namespace Cert.KernelIdeal.Hand

open Cert.KernelIdeal.Gen Cert.Spec
open Idealize.ShloMosaic Idealize.ShloMosaic.TcCoe
open scoped BigOperators

variable (m : (ℓ : Loc nD τ sig) → Buf (Elt Ideal) ℓ) (c : Dev nD)

/-- The hidden states. -/
abbrev aHid : FVec Ideal S8x1024x2048 .f32 := m ((c.tc : Thread nD τ).loc main_arg0)
/-- The first projection's directions. -/
abbrev aVIn : FVec Ideal S64x1024 .f32 := m ((c.tc : Thread nD τ).loc main_arg1)
/-- The first projection's gains. -/
abbrev aGIn : FVec Ideal S64 .f32 := m ((c.tc : Thread nD τ).loc main_arg2)
/-- The first projection's biases. -/
abbrev aBIn : FVec Ideal S64 .f32 := m ((c.tc : Thread nD τ).loc main_arg3)
/-- The codebook. -/
abbrev aBook : FVec Ideal S1024x64 .f32 := m ((c.tc : Thread nD τ).loc main_arg4)
/-- The second projection's directions. -/
abbrev aVOut : FVec Ideal S1024x64 .f32 := m ((c.tc : Thread nD τ).loc main_arg5)
/-- The second projection's gains. -/
abbrev aGOut : FVec Ideal S1024 .f32 := m ((c.tc : Thread nD τ).loc main_arg6)
/-- The second projection's biases. -/
abbrev aBOut : FVec Ideal S1024 .f32 := m ((c.tc : Thread nD τ).loc main_arg7)

/-- The projected latent of batch element `b`. -/
def latM (b : Fin 8) (d : Fin 64) (t : Fin 2048) : EReal :=
  latent (fun k t => aHid m c (ix3 b k t)) (fun d k => aVIn m c (ix2 d k)) (fun d => aGIn m c (ix1 d)) (fun d => aBIn m c (ix1 d)) d t

/-- The codebook at an index. -/
def rowM (k : Fin 1024) (d : Fin 64) : EReal := aBook m c (ix2 k d)

/-- The projected latents of grid point `b`. -/
theorem blkP_pt (b : Fin 8) (d : Fin 64) (t : Fin 2048) :
    blkP (F := Ideal) (iblk m c 0 (pt b)) (iblk m c 1 (pt b)) (iblk m c 2 (pt b)) (iblk m c 3 (pt b)) (ix2 d t) = latM m c b d t := by
  rw [iblk1_eq, iblk2_eq, iblk3_eq]
  refine (blkP_at _ _ _ _ d t).trans ?_
  exact congrArg (fun x => latent x (fun d k => aVIn m c (ix2 d k)) (fun d => aGIn m c (ix1 d)) (fun d => aBIn m c (ix1 d)) d t)
    (funext fun k => funext fun t => iblk0_at m c b k t)

/-- The code of grid point `b` at time `t`. -/
theorem code_pt (b : Fin 8) (t : Fin 2048) :
    code (fun d => blkP (F := Ideal) (iblk m c 0 (pt b)) (iblk m c 1 (pt b)) (iblk m c 2 (pt b)) (iblk m c 3 (pt b)) (ix2 d t)) (fun k d => (iblk m c 4 (pt b) : FVec Ideal S1024x64 .f32) (ix2 k d))
      = code (fun d => latM m c b d t) (rowM m c) := by
  rw [iblk4_eq]
  exact congrArg (fun e => code e (rowM m c)) (funext fun d => blkP_pt m c b d t)

/-- The chosen rows of grid point `b`. -/
theorem blkQ_pt (b : Fin 8) (d : Fin 64) (t : Fin 2048) :
    blkQ (F := Ideal) (iblk m c 0 (pt b)) (iblk m c 1 (pt b)) (iblk m c 2 (pt b)) (iblk m c 3 (pt b)) (iblk m c 4 (pt b)) (ix2 d t)
      = rowM m c (code (fun d => latM m c b d t) (rowM m c)) d := by
  refine (blkQ_at _ _ _ _ _ d t).trans ?_
  rw [code_pt, iblk4_eq]
  rfl

/-- The fifth result: the projected latents. -/
theorem resProj_at (b : Fin 8) (d : Fin 64) (t : Fin 2048) : resProj m c (ix3 b d t) = latM m c b d t := by
  rw [← blkP_pt]
  show k0_pay14 (F := Ideal) (blkP (F := Ideal) (iblk m c 0 (pt b)) (iblk m c 1 (pt b)) (iblk m c 2 (pt b)) (iblk m c 3 (pt b))) (ix3 0 d t) = _
  generalize blkP (F := Ideal) (iblk m c 0 (pt b)) (iblk m c 1 (pt b)) (iblk m c 2 (pt b)) (iblk m c 3 (pt b)) = p
  unfold k0_pay14
  pointwise

/-- The fourth result: the codes. -/
theorem resIdx_at (b : Fin 8) (t : Fin 2048) :
    resIdx m c (ix2 b t) = BitVec.ofNat 32 (code (fun d => latM m c b d t) (rowM m c)).val := by
  rw [← code_pt]
  exact blkIdx_at _ _ _ _ _ t

/-- The second result, and the third: the loss. -/
theorem resLoss_at (b : Fin 8) : resLoss m c (ix1 b) = loss (latM m c b) (rowM m c) := by
  show k0_pay1 (F := Ideal) (blkSum (F := Ideal) (iblk m c 0 (pt b)) (iblk m c 1 (pt b)) (iblk m c 2 (pt b)) (iblk m c 3 (pt b)) (iblk m c 4 (pt b))) = _
  rw [blkSum_at]
  simp only [blkP_pt, blkQ_pt]
  rfl

/-- The first result: the output. -/
theorem resOut_at (b : Fin 8) (l : Fin 1024) (t : Fin 2048) :
    resOut m c (ix3 b l t) = out (latM m c b) (rowM m c) (fun l d => aVOut m c (ix2 l d)) (fun l => aGOut m c (ix1 l)) (fun l => aBOut m c (ix1 l)) l t := by
  refine Eq.trans (blkOut_at (iblk m c 0 (pt b)) (iblk m c 1 (pt b)) (iblk m c 2 (pt b)) (iblk m c 3 (pt b)) (iblk m c 4 (pt b)) (iblk m c 5 (pt b)) (iblk m c 6 (pt b)) (iblk m c 7 (pt b)) l t) ?_
  simp only [blkQ_pt]
  rw [iblk5_eq, iblk6_eq, iblk7_eq]
  rfl

end Cert.KernelIdeal.Hand
-- ==== Proof.RefRun.lean ====
/- The reference's @main as a LIST of its host operations, and its run read back: every weakly fair execution
   terminates with each result buffer at the composed term of the arguments' launch contents, the arguments
   unchanged.  The run is stated in five windows of at most thirty operations each. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 117 (window `main_part0`). -/
abbrev ops_part0_0 : List (HloOp τ sig (Elt F)) :=
  [ binary main_arg1 main_arg1 main_v0 (mulf : (⟨S64x1024, .f32⟩ : BufTy).Contents (Elt F) → (⟨S64x1024, .f32⟩ : BufTy).Contents (Elt F) → (⟨S64x1024, .f32⟩ : BufTy).Contents (Elt F)),
    nullary main_cst (constant S_ .f32 0x00000000#32),
    binary main_v0 main_cst main_v1 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F)),
    unary main_v1 main_v2 (broadcastInDim S64x1 ![0] bcast_S64_S64x1_0 : (⟨S64, .f32⟩ : BufTy).Contents (Elt F) → (⟨S64x1, .f32⟩ : BufTy).Contents (Elt F)),
    unary main_v2 main_v3 (Host.sqrt : (⟨S64x1, .f32⟩ : BufTy).Contents (Elt F) → (⟨S64x1, .f32⟩ : BufTy).Contents (Elt F)),
    unary main_arg2 main_v4 (broadcastInDim S64x1 ![0] bcast_S64_S64x1_0 : (⟨S64, .f32⟩ : BufTy).Contents (Elt F) → (⟨S64x1, .f32⟩ : BufTy).Contents (Elt F)),
    binary main_v4 main_v3 main_v5 (Host.divf : (⟨S64x1, .f32⟩ : BufTy).Contents (Elt F) → (⟨S64x1, .f32⟩ : BufTy).Contents (Elt F) → (⟨S64x1, .f32⟩ : BufTy).Contents (Elt F)),
    unary main_v5 main_v6 (broadcastInDim S64x1024 ![0, 1] bcast_S64x1_S64x1024_0_1 : (⟨S64x1, .f32⟩ : BufTy).Contents (Elt F) → (⟨S64x1024, .f32⟩ : BufTy).Contents (Elt F)),
    binary main_arg1 main_v6 main_v7 (mulf : (⟨S64x1024, .f32⟩ : BufTy).Contents (Elt F) → (⟨S64x1024, .f32⟩ : BufTy).Contents (Elt F) → (⟨S64x1024, .f32⟩ : BufTy).Contents (Elt F)),
    binary main_arg0 main_v7 main_v8 ((fun l r => Host.dotGeneral dot_S8x1024x2048_S64x1024_S8x2048x64_1_1_02_0_n_n none l r) : (⟨S8x1024x2048, .f32⟩ : BufTy).Contents (Elt F) → (⟨S64x1024, .f32⟩ : BufTy).Contents (Elt F) → (⟨S8x2048x64, .f32⟩ : BufTy).Contents (Elt F)),
    unary main_v8 main_v9 ((transpose S8x64x2048 [0, 2, 1] · transposes_S8x2048x64_S8x64x2048_0_2_1) : (⟨S8x2048x64, .f32⟩ : BufTy).Contents (Elt F) → (⟨S8x64x2048, .f32⟩ : BufTy).Contents (Elt F)),
    unary main_arg3 main_v10 (broadcastInDim S1x64x1 ![1] bcast_S64_S1x64x1_1 : (⟨S64, .f32⟩ : BufTy).Contents (Elt F) → (⟨S1x64x1, .f32⟩ : BufTy).Contents (Elt F)),
    unary main_v10 main_v11 (broadcastInDim S8x64x2048 ![0, 1, 2] bcast_S1x64x1_S8x64x2048_0_1_2 : (⟨S1x64x1, .f32⟩ : BufTy).Contents (Elt F) → (⟨S8x64x2048, .f32⟩ : BufTy).Contents (Elt F)),
    binary main_v9 main_v11 main_v12 (addf : (⟨S8x64x2048, .f32⟩ : BufTy).Contents (Elt F) → (⟨S8x64x2048, .f32⟩ : BufTy).Contents (Elt F) → (⟨S8x64x2048, .f32⟩ : BufTy).Contents (Elt F)),
    unary main_v12 main_v13 ((transpose S8x2048x64 [0, 2, 1] · transposes_S8x64x2048_S8x2048x64_0_2_1) : (⟨S8x64x2048, .f32⟩ : BufTy).Contents (Elt F) → (⟨S8x2048x64, .f32⟩ : BufTy).Contents (Elt F)),
    reshape main_v13 main_v14 (rfl : (.f32 : EltTy) = .f32) shapeCasts_S8x2048x64_S16384x64,
    TRef.binary (TRef.of (T := ⟨S16384x64, .f32⟩) main_v14) (TRef.of (T := ⟨S16384x64, .f32⟩) main_v14) (TRef.of (T := ⟨S16384x64, .f32⟩) main_call0_v0) mulf,
    TRef.nullary (TRef.of (T := ⟨S_, .f32⟩) main_call0_cst) (constant S_ .f32 0x00000000#32),
    TRef.binary (TRef.of (T := ⟨S16384x64, .f32⟩) main_call0_v0) (TRef.of (T := ⟨S_, .f32⟩) main_call0_cst) (TRef.of (T := ⟨S16384, .f32⟩) main_call0_v1) (fun x v => Host.reduceAdd x v reducesTo_S16384x64_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v15) Host.sqrt,
    nullary main_cst_0 (constant S_ .f32 0x2B8CBCCC#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S16384x1, .f32⟩) main_call1_v1) (broadcastInDim S16384x1 ![] bcast_S_S16384x1),
    TRef.binary (TRef.of (T := ⟨S16384x1, .f32⟩) main_call1_v1) (TRef.of (T := ⟨S16384x1, .f32⟩) main_v15) (TRef.of (T := ⟨S16384x1, .f32⟩) main_v16) maximumf,
    unary main_v16 main_v17 (broadcastInDim S16384x64 ![0, 1] bcast_S16384x1_S16384x64_0_1 : (⟨S16384x1, .f32⟩ : BufTy).Contents (Elt F) → (⟨S16384x64, .f32⟩ : BufTy).Contents (Elt F)),
    binary main_v14 main_v17 main_v18 (Host.divf : (⟨S16384x64, .f32⟩ : BufTy).Contents (Elt F) → (⟨S16384x64, .f32⟩ : BufTy).Contents (Elt F) → (⟨S16384x64, .f32⟩ : BufTy).Contents (Elt F)),
    TRef.binary (TRef.of (T := ⟨S1024x64, .f32⟩) main_arg4) (TRef.of (T := ⟨S1024x64, .f32⟩) main_arg4) (TRef.of (T := ⟨S1024x64, .f32⟩) main_call2_v0) mulf,
    TRef.nullary (TRef.of (T := ⟨S_, .f32⟩) main_call2_cst) (constant S_ .f32 0x00000000#32),
    TRef.binary (TRef.of (T := ⟨S1024x64, .f32⟩) main_call2_v0) (TRef.of (T := ⟨S_, .f32⟩) main_call2_cst) (TRef.of (T := ⟨S1024, .f32⟩) main_call2_v1) (fun x v => Host.reduceAdd x v reducesTo_S1024x64_S1024_d1 h_S_) ]

/-- @main's operations 31 … 60 of 117 (window `main_part0`). -/
abbrev ops_part0_1 : List (HloOp τ sig (Elt F)) :=
  [ TRef.unary (TRef.of (T := ⟨S1024, .f32⟩) main_call2_v1) (TRef.of (T := ⟨S1024x1, .f32⟩) main_call2_v2) (broadcastInDim S1024x1 ![0] bcast_S1024_S1024x1_0),
    TRef.unary (TRef.of (T := ⟨S1024x1, .f32⟩) main_call2_v2) (TRef.of (T := ⟨S1024x1, .f32⟩) main_v19) Host.sqrt,
    nullary main_cst_1 (constant S_ .f32 0x2B8CBCCC#32),
    TRef.unary (TRef.of (T := ⟨S_, .f32⟩) main_cst_1) (TRef.of (T := ⟨S_, .f32⟩) main_call3_v0) id,
    TRef.unary (TRef.of (T := ⟨S_, .f32⟩) main_call3_v0) (TRef.of (T := ⟨S1024x1, .f32⟩) main_call3_v1) (broadcastInDim S1024x1 ![] bcast_S_S1024x1),
    TRef.binary (TRef.of (T := ⟨S1024x1, .f32⟩) main_call3_v1) (TRef.of (T := ⟨S1024x1, .f32⟩) main_v19) (TRef.of (T := ⟨S1024x1, .f32⟩) main_v20) maximumf,
    unary main_v20 main_v21 (broadcastInDim S1024x64 ![0, 1] bcast_S1024x1_S1024x64_0_1 : (⟨S1024x1, .f32⟩ : BufTy).Contents (Elt F) → (⟨S1024x64, .f32⟩ : BufTy).Contents (Elt F)),
    binary main_arg4 main_v21 main_v22 (Host.divf : (⟨S1024x64, .f32⟩ : BufTy).Contents (Elt F) → (⟨S1024x64, .f32⟩ : BufTy).Contents (Elt F) → (⟨S1024x64, .f32⟩ : BufTy).Contents (Elt F)),
    binary main_v18 main_v18 main_v23 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v23 main_cst_2 main_v24 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v24 main_v25 (broadcastInDim S16384x1 ![0] bcast_S16384_S16384x1_0 : (⟨S16384, .f32⟩ : BufTy).Contents (Elt F) → (⟨S16384x1, .f32⟩ : BufTy).Contents (Elt F)),
    nullary main_cst_3 (constant S_ .f32 0x40000000#32),
    unary main_cst_3 main_v26 (broadcastInDim S16384x64 ![] bcast_S_S16384x64 : (⟨S_, .f32⟩ : BufTy).Contents (Elt F) → (⟨S16384x64, .f32⟩ : BufTy).Contents (Elt F)),
    binary main_v26 main_v18 main_v27 (mulf : (⟨S16384x64, .f32⟩ : BufTy).Contents (Elt F) → (⟨S16384x64, .f32⟩ : BufTy).Contents (Elt F) → (⟨S16384x64, .f32⟩ : BufTy).Contents (Elt F)),
    unary main_v22 main_v28 ((transpose S64x1024 [1, 0] · transposes_S1024x64_S64x1024_1_0) : (⟨S1024x64, .f32⟩ : BufTy).Contents (Elt F) → (⟨S64x1024, .f32⟩ : BufTy).Contents (Elt F)),
    binary main_v27 main_v28 main_v29 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    unary main_v25 main_v30 (broadcastInDim S16384x1024 ![0, 1] bcast_S16384x1_S16384x1024_0_1 : (⟨S16384x1, .f32⟩ : BufTy).Contents (Elt F) → (⟨S16384x1024, .f32⟩ : BufTy).Contents (Elt F)),
    binary main_v30 main_v29 main_v31 (subf : (⟨S16384x1024, .f32⟩ : BufTy).Contents (Elt F) → (⟨S16384x1024, .f32⟩ : BufTy).Contents (Elt F) → (⟨S16384x1024, .f32⟩ : BufTy).Contents (Elt F)),
    binary main_v22 main_v22 main_v32 (mulf : (⟨S1024x64, .f32⟩ : BufTy).Contents (Elt F) → (⟨S1024x64, .f32⟩ : BufTy).Contents (Elt F) → (⟨S1024x64, .f32⟩ : BufTy).Contents (Elt F)),
    nullary main_cst_4 (constant S_ .f32 0x00000000#32),
    binary main_v32 main_cst_4 main_v33 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v33 main_v34 (broadcastInDim S1024x1 ![0] bcast_S1024_S1024x1_0 : (⟨S1024, .f32⟩ : BufTy).Contents (Elt F) → (⟨S1024x1, .f32⟩ : BufTy).Contents (Elt F)),
    unary main_v34 main_v35 ((transpose S1x1024 [1, 0] · transposes_S1024x1_S1x1024_1_0) : (⟨S1024x1, .f32⟩ : BufTy).Contents (Elt F) → (⟨S1x1024, .f32⟩ : BufTy).Contents (Elt F)),
    unary main_v35 main_v36 (broadcastInDim S16384x1024 ![0, 1] bcast_S1x1024_S16384x1024_0_1 : (⟨S1x1024, .f32⟩ : BufTy).Contents (Elt F) → (⟨S16384x1024, .f32⟩ : BufTy).Contents (Elt F)),
    binary main_v31 main_v36 main_v37 (addf : (⟨S16384x1024, .f32⟩ : BufTy).Contents (Elt F) → (⟨S16384x1024, .f32⟩ : BufTy).Contents (Elt F) → (⟨S16384x1024, .f32⟩ : BufTy).Contents (Elt F)),
    unary main_v37 main_v38 (Host.negf : (⟨S16384x1024, .f32⟩ : BufTy).Contents (Elt F) → (⟨S16384x1024, .f32⟩ : BufTy).Contents (Elt F)),
    TRef.nullary (TRef.of (T := ⟨S16384x1024, .i32⟩) main_call4_v0) (iotaInDim S16384x1024 32 1),
    TRef.nullary (TRef.of (T := ⟨S_, .f32⟩) main_call4_cst) (constant S_ .f32 0xFF800000#32),
    TRef.nullary (TRef.of (T := ⟨S_, .i32⟩) main_call4_c) (constantI S_ 32 0#32) ]

/-- The greatest value along the rows, of the pairwise reduction that finds it with its column. -/
def rowBest : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F) :=
  fun x y u v => fun j => (Host.argReduce reducer_argmax_f32_i32 x y u v reducesTo_S16384x1024_S16384_d1 h_S_ j).1
/-- The column of the greatest value along the rows, of the same reduction. -/
def rowArg : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F) :=
  fun x y u v => fun j => (Host.argReduce reducer_argmax_f32_i32 x y u v reducesTo_S16384x1024_S16384_d1 h_S_ j).2
/-- The conjunction of a row's bound checks. -/
def allIn : (⟨S8x2048x1, .i1⟩ : BufTy).Contents (Elt F) → (⟨S_, .i1⟩ : BufTy).Contents (Elt F) → (⟨S8x2048, .i1⟩ : BufTy).Contents (Elt F) :=
  fun x v => Host.reduce IntOp.andi x v reducesTo_S8x2048x1_S8x2048_d2 h_S_
/-- The codebook's rows at the given row numbers. -/
def rowsAt : (⟨S1024x64, .f32⟩ : BufTy).Contents (Elt F) → (⟨S8x2048x1, .i32⟩ : BufTy).Contents (Elt F) → (⟨S8x2048x64, .f32⟩ : BufTy).Contents (Elt F) :=
  fun x i => Host.gather gather_S1024x64_S8x2048x1_S8x2048x64_2_0_n_n_0_2_164 x i

/-- @main's operations 61 … 90, with the functions of four of them left as parameters. -/
abbrev ops_part0_2' (f1 : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F)) (f2 : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F))
    (f3 : (⟨S8x2048x1, .i1⟩ : BufTy).Contents (Elt F) → (⟨S_, .i1⟩ : BufTy).Contents (Elt F) → (⟨S8x2048, .i1⟩ : BufTy).Contents (Elt F)) (f4 : (⟨S1024x64, .f32⟩ : BufTy).Contents (Elt F) → (⟨S8x2048x1, .i32⟩ : BufTy).Contents (Elt F) → (⟨S8x2048x64, .f32⟩ : BufTy).Contents (Elt F)) : List (HloOp τ sig (Elt F)) :=
  [ TRef.quaternary (TRef.of (T := ⟨S16384x1024, .f32⟩) main_v38) (TRef.of (T := ⟨S16384x1024, .i32⟩) main_call4_v0) (TRef.of (T := ⟨S_, .f32⟩) main_call4_cst) (TRef.of (T := ⟨S_, .i32⟩) main_call4_c) (TRef.of (T := ⟨S16384, .f32⟩) main_call4_v1_0) f1,
    TRef.quaternary (TRef.of (T := ⟨S16384x1024, .f32⟩) main_v38) (TRef.of (T := ⟨S16384x1024, .i32⟩) main_call4_v0) (TRef.of (T := ⟨S_, .f32⟩) main_call4_cst) (TRef.of (T := ⟨S_, .i32⟩) main_call4_c) (TRef.of (T := ⟨S16384, .i32⟩) main_v39) f2,
    reshape main_v39 main_v40 (rfl : (.i32 : EltTy) = .i32) shapeCasts_S16384_S8x2048,
    TRef.nullary (TRef.of (T := ⟨S_, .i32⟩) main_call5_c) (constantI S_ 32 0#32),
    TRef.unary (TRef.of (T := ⟨S_, .i32⟩) main_call5_c) (TRef.of (T := ⟨S8x2048, .i32⟩) main_call5_v0) (broadcastInDim S8x2048 ![] bcast_S_S8x2048),
    TRef.binary (TRef.of (T := ⟨S8x2048, .i32⟩) main_v40) (TRef.of (T := ⟨S8x2048, .i32⟩) main_call5_v0) (TRef.of (T := ⟨S8x2048, .i1⟩) main_call5_v1) (cmpi .slt),
    TRef.nullary (TRef.of (T := ⟨S_, .i32⟩) main_call5_c_0) (constantI S_ 32 1024#32),
    TRef.unary (TRef.of (T := ⟨S_, .i32⟩) main_call5_c_0) (TRef.of (T := ⟨S8x2048, .i32⟩) main_call5_v2) (broadcastInDim S8x2048 ![] bcast_S_S8x2048),
    TRef.binary (TRef.of (T := ⟨S8x2048, .i32⟩) main_v40) (TRef.of (T := ⟨S8x2048, .i32⟩) main_call5_v2) (TRef.of (T := ⟨S8x2048, .i32⟩) main_call5_v3) addi,
    TRef.ternary (TRef.of (T := ⟨S8x2048, .i1⟩) main_call5_v1) (TRef.of (T := ⟨S8x2048, .i32⟩) main_call5_v3) (TRef.of (T := ⟨S8x2048, .i32⟩) main_v40) (TRef.of (T := ⟨S8x2048, .i32⟩) main_call5_v4) select,
    TRef.unary (TRef.of (T := ⟨S8x2048, .i32⟩) main_call5_v4) (TRef.of (T := ⟨S8x2048x1, .i32⟩) main_call5_v5) (broadcastInDim S8x2048x1 ![0, 1] bcast_S8x2048_S8x2048x1_0_1),
    TRef.nullary (TRef.of (T := ⟨S1, .i32⟩) main_call5_c_1) (constantI S1 32 1023#32),
    TRef.nullary (TRef.of (T := ⟨S_, .i32⟩) main_call5_c_2) (constantI S_ 32 0#32),
    TRef.unary (TRef.of (T := ⟨S_, .i32⟩) main_call5_c_2) (TRef.of (T := ⟨S8x2048x1, .i32⟩) main_call5_v6) (broadcastInDim S8x2048x1 ![] bcast_S_S8x2048x1),
    TRef.binary (TRef.of (T := ⟨S8x2048x1, .i32⟩) main_call5_v5) (TRef.of (T := ⟨S8x2048x1, .i32⟩) main_call5_v6) (TRef.of (T := ⟨S8x2048x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S8x2048x1, .i32⟩) main_call5_v9) (broadcastInDim S8x2048x1 ![0, 1, 2] bcast_S1x1x1_S8x2048x1_0_1_2),
    TRef.binary (TRef.of (T := ⟨S8x2048x1, .i32⟩) main_call5_v5) (TRef.of (T := ⟨S8x2048x1, .i32⟩) main_call5_v9) (TRef.of (T := ⟨S8x2048x1, .i1⟩) main_call5_v10) (cmpi .sle),
    TRef.binary (TRef.of (T := ⟨S8x2048x1, .i1⟩) main_call5_v7) (TRef.of (T := ⟨S8x2048x1, .i1⟩) main_call5_v10) (TRef.of (T := ⟨S8x2048x1, .i1⟩) main_call5_v11) andi,
    TRef.nullary (TRef.of (T := ⟨S_, .i1⟩) main_call5_c_3) (constantI S_ 1 1#1),
    TRef.binary (TRef.of (T := ⟨S8x2048x1, .i1⟩) main_call5_v11) (TRef.of (T := ⟨S_, .i1⟩) main_call5_c_3) (TRef.of (T := ⟨S8x2048, .i1⟩) main_call5_v12) f3,
    TRef.binary (TRef.of (T := ⟨S1024x64, .f32⟩) main_arg4) (TRef.of (T := ⟨S8x2048x1, .i32⟩) main_call5_v5) (TRef.of (T := ⟨S8x2048x64, .f32⟩) main_call5_v13) f4,
    TRef.unary (TRef.of (T := ⟨S8x2048, .i1⟩) main_call5_v12) (TRef.of (T := ⟨S8x2048x64, .i1⟩) main_call5_v14) (broadcastInDim S8x2048x64 ![0, 1] bcast_S8x2048_S8x2048x64_0_1),
    TRef.nullary (TRef.of (T := ⟨S_, .f32⟩) main_call5_cst) (constant S_ .f32 0x7FC00000#32),
    TRef.unary (TRef.of (T := ⟨S_, .f32⟩) main_call5_cst) (TRef.of (T := ⟨S8x2048x64, .f32⟩) main_call5_v15) (broadcastInDim S8x2048x64 ![] bcast_S_S8x2048x64),
    TRef.ternary (TRef.of (T := ⟨S8x2048x64, .i1⟩) main_call5_v14) (TRef.of (T := ⟨S8x2048x64, .f32⟩) main_call5_v13) (TRef.of (T := ⟨S8x2048x64, .f32⟩) main_call5_v15) (TRef.of (T := ⟨S8x2048x64, .f32⟩) main_v41) select,
    unary main_v41 main_v42 ((transpose S8x64x2048 [0, 2, 1] · transposes_S8x2048x64_S8x64x2048_0_2_1) : (⟨S8x2048x64, .f32⟩ : BufTy).Contents (Elt F) → (⟨S8x64x2048, .f32⟩ : BufTy).Contents (Elt F)),
    binary main_v12 main_v42 main_v43 (subf : (⟨S8x64x2048, .f32⟩ : BufTy).Contents (Elt F) → (⟨S8x64x2048, .f32⟩ : BufTy).Contents (Elt F) → (⟨S8x64x2048, .f32⟩ : BufTy).Contents (Elt F)),
    binary main_v43 main_v43 main_v44 (mulf : (⟨S8x64x2048, .f32⟩ : BufTy).Contents (Elt F) → (⟨S8x64x2048, .f32⟩ : BufTy).Contents (Elt F) → (⟨S8x64x2048, .f32⟩ : BufTy).Contents (Elt F)),
    nullary main_cst_5 (constant S_ .f32 0x00000000#32) ]

/-- @main's operations 61 … 90 of 117 (window `main_part0`). -/
abbrev ops_part0_2 : List (HloOp τ sig (Elt F)) := ops_part0_2' rowBest rowArg allIn rowsAt

/-- @main's operations 91 … 98 of 117 (window `main_part0`). -/
abbrev ops_part0_3 : List (HloOp τ sig (Elt F)) :=
  [ binary main_v44 main_cst_5 main_v45 ((fun x v => Host.reduceAdd x v reducesTo_S8x64x2048_S8_d1_2 h_S_) : (⟨S8x64x2048, .f32⟩ : BufTy).Contents (Elt F) → (⟨S_, .f32⟩ : BufTy).Contents (Elt F) → (⟨S8, .f32⟩ : BufTy).Contents (Elt F)),
    nullary main_cst_6 (constant S_ .f32 0x48000000#32),
    unary main_cst_6 main_v46 (broadcastInDim S8 ![] bcast_S_S8 : (⟨S_, .f32⟩ : BufTy).Contents (Elt F) → (⟨S8, .f32⟩ : BufTy).Contents (Elt F)),
    binary main_v45 main_v46 main_v47 (Host.divf : (⟨S8, .f32⟩ : BufTy).Contents (Elt F) → (⟨S8, .f32⟩ : BufTy).Contents (Elt F) → (⟨S8, .f32⟩ : BufTy).Contents (Elt F)),
    binary main_v42 main_v12 main_v48 (subf : (⟨S8x64x2048, .f32⟩ : BufTy).Contents (Elt F) → (⟨S8x64x2048, .f32⟩ : BufTy).Contents (Elt F) → (⟨S8x64x2048, .f32⟩ : BufTy).Contents (Elt F)),
    binary main_v48 main_v48 main_v49 (mulf : (⟨S8x64x2048, .f32⟩ : BufTy).Contents (Elt F) → (⟨S8x64x2048, .f32⟩ : BufTy).Contents (Elt F) → (⟨S8x64x2048, .f32⟩ : BufTy).Contents (Elt F)),
    nullary main_cst_7 (constant S_ .f32 0x00000000#32),
    binary main_v49 main_cst_7 main_v50 ((fun x v => Host.reduceAdd x v reducesTo_S8x64x2048_S8_d1_2 h_S_) : (⟨S8x64x2048, .f32⟩ : BufTy).Contents (Elt F) → (⟨S_, .f32⟩ : BufTy).Contents (Elt F) → (⟨S8, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 99 … 117 of 117 (window `main_part1`). -/
abbrev ops_part1 : List (HloOp τ sig (Elt F)) :=
  [ nullary main_cst_8 (constant S_ .f32 0x48000000#32),
    unary main_cst_8 main_v51 (broadcastInDim S8 ![] bcast_S_S8 : (⟨S_, .f32⟩ : BufTy).Contents (Elt F) → (⟨S8, .f32⟩ : BufTy).Contents (Elt F)),
    binary main_v50 main_v51 main_v52 (Host.divf : (⟨S8, .f32⟩ : BufTy).Contents (Elt F) → (⟨S8, .f32⟩ : BufTy).Contents (Elt F) → (⟨S8, .f32⟩ : BufTy).Contents (Elt F)),
    binary main_v42 main_v12 main_v53 (subf : (⟨S8x64x2048, .f32⟩ : BufTy).Contents (Elt F) → (⟨S8x64x2048, .f32⟩ : BufTy).Contents (Elt F) → (⟨S8x64x2048, .f32⟩ : BufTy).Contents (Elt F)),
    binary main_v12 main_v53 main_v54 (addf : (⟨S8x64x2048, .f32⟩ : BufTy).Contents (Elt F) → (⟨S8x64x2048, .f32⟩ : BufTy).Contents (Elt F) → (⟨S8x64x2048, .f32⟩ : BufTy).Contents (Elt F)),
    binary main_arg5 main_arg5 main_v55 (mulf : (⟨S1024x64, .f32⟩ : BufTy).Contents (Elt F) → (⟨S1024x64, .f32⟩ : BufTy).Contents (Elt F) → (⟨S1024x64, .f32⟩ : BufTy).Contents (Elt F)),
    nullary main_cst_9 (constant S_ .f32 0x00000000#32),
    binary main_v55 main_cst_9 main_v56 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v56 main_v57 (broadcastInDim S1024x1 ![0] bcast_S1024_S1024x1_0 : (⟨S1024, .f32⟩ : BufTy).Contents (Elt F) → (⟨S1024x1, .f32⟩ : BufTy).Contents (Elt F)),
    unary main_v57 main_v58 (Host.sqrt : (⟨S1024x1, .f32⟩ : BufTy).Contents (Elt F) → (⟨S1024x1, .f32⟩ : BufTy).Contents (Elt F)),
    unary main_arg6 main_v59 (broadcastInDim S1024x1 ![0] bcast_S1024_S1024x1_0 : (⟨S1024, .f32⟩ : BufTy).Contents (Elt F) → (⟨S1024x1, .f32⟩ : BufTy).Contents (Elt F)),
    binary main_v59 main_v58 main_v60 (Host.divf : (⟨S1024x1, .f32⟩ : BufTy).Contents (Elt F) → (⟨S1024x1, .f32⟩ : BufTy).Contents (Elt F) → (⟨S1024x1, .f32⟩ : BufTy).Contents (Elt F)),
    unary main_v60 main_v61 (broadcastInDim S1024x64 ![0, 1] bcast_S1024x1_S1024x64_0_1 : (⟨S1024x1, .f32⟩ : BufTy).Contents (Elt F) → (⟨S1024x64, .f32⟩ : BufTy).Contents (Elt F)),
    binary main_arg5 main_v61 main_v62 (mulf : (⟨S1024x64, .f32⟩ : BufTy).Contents (Elt F) → (⟨S1024x64, .f32⟩ : BufTy).Contents (Elt F) → (⟨S1024x64, .f32⟩ : BufTy).Contents (Elt F)),
    binary main_v54 main_v62 main_v63 ((fun l r => Host.dotGeneral dot_S8x64x2048_S1024x64_S8x2048x1024_1_1_02_0_n_n none l r) : (⟨S8x64x2048, .f32⟩ : BufTy).Contents (Elt F) → (⟨S1024x64, .f32⟩ : BufTy).Contents (Elt F) → (⟨S8x2048x1024, .f32⟩ : BufTy).Contents (Elt F)),
    unary main_v63 main_v64 ((transpose S8x1024x2048 [0, 2, 1] · transposes_S8x2048x1024_S8x1024x2048_0_2_1) : (⟨S8x2048x1024, .f32⟩ : BufTy).Contents (Elt F) → (⟨S8x1024x2048, .f32⟩ : BufTy).Contents (Elt F)),
    unary main_arg7 main_v65 (broadcastInDim S1x1024x1 ![1] bcast_S1024_S1x1024x1_1 : (⟨S1024, .f32⟩ : BufTy).Contents (Elt F) → (⟨S1x1024x1, .f32⟩ : BufTy).Contents (Elt F)),
    unary main_v65 main_v66 (broadcastInDim S8x1024x2048 ![0, 1, 2] bcast_S1x1024x1_S8x1024x2048_0_1_2 : (⟨S1x1024x1, .f32⟩ : BufTy).Contents (Elt F) → (⟨S8x1024x2048, .f32⟩ : BufTy).Contents (Elt F)),
    binary main_v64 main_v66 main_v67 (addf : (⟨S8x1024x2048, .f32⟩ : BufTy).Contents (Elt F) → (⟨S8x1024x2048, .f32⟩ : BufTy).Contents (Elt F) → (⟨S8x1024x2048, .f32⟩ : BufTy).Contents (Elt F)) ]

/-- @main's 117 operations, in order (a called function's operations stand in its call's place, spelt `TRef.…`). -/
abbrev ops : List (HloOp τ sig (Elt F)) :=
  ops_part0 ++ (ops_part1)

set_option maxRecDepth 8192 in
set_option maxHeartbeats 4000000 in
/-- `main_part0` runs its operations in order. -/
theorem main_part0_eq (c : Dev nD) : main_part0 (F := F) c = seq ops_part0 := rfl
set_option maxRecDepth 8192 in
/-- `main_part1` runs its operations in order. -/
theorem main_part1_eq (c : Dev nD) : main_part1 (F := F) c = seq ops_part1 := rfl
set_option maxRecDepth 8192 in
/-- `main` runs its operations in order. -/
theorem main_eq (c : Dev nD) : main (F := F) c = seq ops := by
  simp only [ops, seq_append, ← main_part0_eq c, ← main_part1_eq c]
  rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- The operations `ops_part0_0` name buffers of the device only. -/
theorem ops_part0_0_sub : (ops_part0_0 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., unary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., binary_bufs_sub ..⟩
set_option maxRecDepth 8192 in
/-- The operations `ops_part0_0` allocate nothing. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations `ops_part0_1` name buffers of the device only. -/
theorem ops_part0_1_sub : (ops_part0_1 : List (HloOp τ sig (Elt F))).Forall fun op => op.bufs ⊆ tcRefs τ sig :=
  ⟨unary_bufs_sub .., unary_bufs_sub .., nullary_bufs_sub .., unary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., unary_bufs_sub .., binary_bufs_sub .., unary_bufs_sub .., nullary_bufs_sub .., nullary_bufs_sub .., nullary_bufs_sub ..⟩
set_option maxRecDepth 8192 in
/-- The operations `ops_part0_1` allocate nothing. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations `ops_part0_2` name buffers of the device only. -/
theorem ops_part0_2_sub : (ops_part0_2 : List (HloOp τ sig (Elt F))).Forall fun op => op.bufs ⊆ tcRefs τ sig :=
  ⟨quaternary_bufs_sub .., quaternary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub ..⟩
set_option maxRecDepth 8192 in
/-- The operations `ops_part0_2` allocate nothing. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations `ops_part0_3` name buffers of the device only. -/
theorem ops_part0_3_sub : (ops_part0_3 : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., binary_bufs_sub ..⟩
set_option maxRecDepth 8192 in
/-- The operations `ops_part0_3` allocate nothing. -/
theorem ops_part0_3_fresh : (ops_part0_3 : List (HloOp τ sig (Elt F))).Forall fun op => op.fresh = ∅ :=
  ⟨rfl, rfl, rfl, rfl, rfl, rfl, rfl, rfl⟩
set_option maxRecDepth 8192 in
/-- The operations `ops_part1` name buffers of the device only. -/
theorem ops_part1_sub : (ops_part1 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub ..⟩
set_option maxRecDepth 8192 in
/-- The operations `ops_part1` allocate nothing. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The operations `ops` name buffers of the device only. -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h]
/-- The operations `ops` allocate nothing. -/
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h]

set_option maxRecDepth 8192 in
/-- `main_v12`'s composed term of the arguments (named: it is used 5 times). -/
def res_main_v12 (V0 : Valuation τ sig (Elt F)) : (Proc.devRef .tc main_v12 : DevRef τ sig).ty.Contents (Elt F) :=
  addf (transpose S8x64x2048 [0, 2, 1] (Host.dotGeneral dot_S8x1024x2048_S64x1024_S8x2048x64_1_1_02_0_n_n none (V0 (Proc.devRef .tc main_arg0)) (mulf (V0 (Proc.devRef .tc main_arg1)) (broadcastInDim S64x1024 ![0, 1] bcast_S64x1_S64x1024_0_1 (Host.divf (broadcastInDim S64x1 ![0] bcast_S64_S64x1_0 (V0 (Proc.devRef .tc main_arg2))) (Host.sqrt (broadcastInDim S64x1 ![0] bcast_S64_S64x1_0 (Host.reduceAdd (mulf (V0 (Proc.devRef .tc main_arg1)) (V0 (Proc.devRef .tc main_arg1))) (constant S_ .f32 0x00000000#32) reducesTo_S64x1024_S64_d1 h_S_))))))) transposes_S8x2048x64_S8x64x2048_0_2_1) (broadcastInDim S8x64x2048 ![0, 1, 2] bcast_S1x64x1_S8x64x2048_0_1_2 (broadcastInDim S1x64x1 ![1] bcast_S64_S1x64x1_1 (V0 (Proc.devRef .tc main_arg3))))

set_option maxRecDepth 8192 in
/-- `main_v14`'s composed term of the arguments (named: it is used 3 times). -/
def res_main_v14 (V0 : Valuation τ sig (Elt F)) : (Proc.devRef .tc main_v14 : DevRef τ sig).ty.Contents (Elt F) :=
  shapeCast _ (transpose S8x2048x64 [0, 2, 1] (res_main_v12 V0) transposes_S8x64x2048_S8x2048x64_0_2_1) shapeCasts_S8x2048x64_S16384x64

set_option maxRecDepth 8192 in
/-- `main_v18`'s composed term of the arguments (named: it is used 3 times). -/
def res_main_v18 (V0 : Valuation τ sig (Elt F)) : (Proc.devRef .tc main_v18 : DevRef τ sig).ty.Contents (Elt F) :=
  Host.divf (res_main_v14 V0) (broadcastInDim S16384x64 ![0, 1] bcast_S16384x1_S16384x64_0_1 (maximumf (broadcastInDim S16384x1 ![] bcast_S_S16384x1 (id (constant S_ .f32 0x2B8CBCCC#32))) (Host.sqrt (broadcastInDim S16384x1 ![0] bcast_S16384_S16384x1_0 (Host.reduceAdd (mulf (res_main_v14 V0) (res_main_v14 V0)) (constant S_ .f32 0x00000000#32) reducesTo_S16384x64_S16384_d1 h_S_)))))

set_option maxRecDepth 8192 in
/-- `main_v22`'s composed term of the arguments (named: it is used 3 times). -/
def res_main_v22 (V0 : Valuation τ sig (Elt F)) : (Proc.devRef .tc main_v22 : DevRef τ sig).ty.Contents (Elt F) :=
  Host.divf (V0 (Proc.devRef .tc main_arg4)) (broadcastInDim S1024x64 ![0, 1] bcast_S1024x1_S1024x64_0_1 (maximumf (broadcastInDim S1024x1 ![] bcast_S_S1024x1 (id (constant S_ .f32 0x2B8CBCCC#32))) (Host.sqrt (broadcastInDim S1024x1 ![0] bcast_S1024_S1024x1_0 (Host.reduceAdd (mulf (V0 (Proc.devRef .tc main_arg4)) (V0 (Proc.devRef .tc main_arg4))) (constant S_ .f32 0x00000000#32) reducesTo_S1024x64_S1024_d1 h_S_)))))

set_option maxRecDepth 8192 in
/-- `main_v38`'s composed term of the arguments (named: it is used 2 times). -/
def res_main_v38 (V0 : Valuation τ sig (Elt F)) : (Proc.devRef .tc main_v38 : DevRef τ sig).ty.Contents (Elt F) :=
  Host.negf (addf (subf (broadcastInDim S16384x1024 ![0, 1] bcast_S16384x1_S16384x1024_0_1 (broadcastInDim S16384x1 ![0] bcast_S16384_S16384x1_0 (Host.reduceAdd (mulf (res_main_v18 V0) (res_main_v18 V0)) (constant S_ .f32 0x00000000#32) reducesTo_S16384x64_S16384_d1 h_S_))) (Host.dotGeneral dot_S16384x64_S64x1024_S16384x1024_1_0_0_1_n_n none (mulf (broadcastInDim S16384x64 ![] bcast_S_S16384x64 (constant S_ .f32 0x40000000#32)) (res_main_v18 V0)) (transpose S64x1024 [1, 0] (res_main_v22 V0) transposes_S1024x64_S64x1024_1_0))) (broadcastInDim S16384x1024 ![0, 1] bcast_S1x1024_S16384x1024_0_1 (transpose S1x1024 [1, 0] (broadcastInDim S1024x1 ![0] bcast_S1024_S1024x1_0 (Host.reduceAdd (mulf (res_main_v22 V0) (res_main_v22 V0)) (constant S_ .f32 0x00000000#32) reducesTo_S1024x64_S1024_d1 h_S_)) transposes_S1024x1_S1x1024_1_0)))

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  iotaInDim S16384x1024 32 1

set_option maxRecDepth 8192 in
/-- `main_call4_cst`'s composed term of the arguments (named: it is used 2 times). -/
def res_main_call4_cst (V0 : Valuation τ sig (Elt F)) : (Proc.devRef .tc main_call4_cst : DevRef τ sig).ty.Contents (Elt F) :=
  constant S_ .f32 0xFF800000#32

set_option maxRecDepth 8192 in
/-- `main_call4_c`'s composed term of the arguments (named: it is used 2 times). -/
def res_main_call4_c (V0 : Valuation τ sig (Elt F)) : (Proc.devRef .tc main_call4_c : DevRef τ sig).ty.Contents (Elt F) :=
  constantI S_ 32 0#32

set_option maxRecDepth 8192 in
/-- `main_v40`'s composed term of the arguments (named: it is used 3 times). -/
def res_main_v40 (V0 : Valuation τ sig (Elt F)) : (Proc.devRef .tc main_v40 : DevRef τ sig).ty.Contents (Elt F) :=
  shapeCast _ (rowArg (res_main_v38 V0) (res_main_call4_v0 V0) (res_main_call4_cst V0) (res_main_call4_c V0)) shapeCasts_S16384_S8x2048

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  broadcastInDim S8x2048x1 ![0, 1] bcast_S8x2048_S8x2048x1_0_1 (select (cmpi .slt (res_main_v40 V0) (broadcastInDim S8x2048 ![] bcast_S_S8x2048 (constantI S_ 32 0#32))) (addi (res_main_v40 V0) (broadcastInDim S8x2048 ![] bcast_S_S8x2048 (constantI S_ 32 1024#32))) (res_main_v40 V0))

set_option maxRecDepth 8192 in
/-- `main_v42`'s composed term of the arguments (named: it is used 3 times). -/
def res_main_v42 (V0 : Valuation τ sig (Elt F)) : (Proc.devRef .tc main_v42 : DevRef τ sig).ty.Contents (Elt F) :=
  transpose S8x64x2048 [0, 2, 1] (select (broadcastInDim S8x2048x64 ![0, 1] bcast_S8x2048_S8x2048x64_0_1 (allIn (F := F) (andi (cmpi .sge (res_main_call5_v5 V0) (broadcastInDim S8x2048x1 ![] bcast_S_S8x2048x1 (constantI S_ 32 0#32))) (cmpi .sle (res_main_call5_v5 V0) (broadcastInDim S8x2048x1 ![0, 1, 2] bcast_S1x1x1_S8x2048x1_0_1_2 (broadcastInDim S1x1x1 ![2] bcast_S1_S1x1x1_2 (constantI S1 32 1023#32))))) (constantI S_ 1 1#1))) (rowsAt (V0 (Proc.devRef .tc main_arg4)) (res_main_call5_v5 V0)) (broadcastInDim S8x2048x64 ![] bcast_S_S8x2048x64 (constant S_ .f32 0x7FC00000#32))) transposes_S8x2048x64_S8x64x2048_0_2_1

set_option maxRecDepth 8192 in
/-- `main_v43`'s composed term of the arguments (named: it is used 2 times). -/
def res_main_v43 (V0 : Valuation τ sig (Elt F)) : (Proc.devRef .tc main_v43 : DevRef τ sig).ty.Contents (Elt F) :=
  subf (res_main_v12 V0) (res_main_v42 V0)

set_option maxRecDepth 8192 in
/-- `main_v48`'s composed term of the arguments (named: it is used 2 times). -/
def res_main_v48 (V0 : Valuation τ sig (Elt F)) : (Proc.devRef .tc main_v48 : DevRef τ sig).ty.Contents (Elt F) :=
  subf (res_main_v42 V0) (res_main_v12 V0)

/-- The device's buffer contents before @main's first window. -/
def val0 (V0 : Valuation τ sig (Elt F)) : Valuation τ sig (Elt F) := V0
/-- What `main_arg0` holds before any operation. -/
theorem val0_main_arg0 (V0 : Valuation τ sig (Elt F)) : val0 V0 (no_index (Proc.devRef .tc main_arg0)) = V0 (Proc.devRef .tc main_arg0) := rfl
/-- What `main_arg1` holds before any operation. -/
theorem val0_main_arg1 (V0 : Valuation τ sig (Elt F)) : val0 V0 (no_index (Proc.devRef .tc main_arg1)) = V0 (Proc.devRef .tc main_arg1) := rfl
/-- What `main_arg2` holds before any operation. -/
theorem val0_main_arg2 (V0 : Valuation τ sig (Elt F)) : val0 V0 (no_index (Proc.devRef .tc main_arg2)) = V0 (Proc.devRef .tc main_arg2) := rfl
/-- What `main_arg3` holds before any operation. -/
theorem val0_main_arg3 (V0 : Valuation τ sig (Elt F)) : val0 V0 (no_index (Proc.devRef .tc main_arg3)) = V0 (Proc.devRef .tc main_arg3) := rfl
/-- What `main_arg4` holds before any operation. -/
theorem val0_main_arg4 (V0 : Valuation τ sig (Elt F)) : val0 V0 (no_index (Proc.devRef .tc main_arg4)) = V0 (Proc.devRef .tc main_arg4) := rfl
/-- What `main_arg5` holds before any operation. -/
theorem val0_main_arg5 (V0 : Valuation τ sig (Elt F)) : val0 V0 (no_index (Proc.devRef .tc main_arg5)) = V0 (Proc.devRef .tc main_arg5) := rfl
/-- What `main_arg6` holds before any operation. -/
theorem val0_main_arg6 (V0 : Valuation τ sig (Elt F)) : val0 V0 (no_index (Proc.devRef .tc main_arg6)) = V0 (Proc.devRef .tc main_arg6) := rfl
/-- What `main_arg7` holds before any operation. -/
theorem val0_main_arg7 (V0 : Valuation τ sig (Elt F)) : val0 V0 (no_index (Proc.devRef .tc main_arg7)) = V0 (Proc.devRef .tc main_arg7) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_v4, main_v5, main_v6, main_v7, main_v8, main_v9, main_v10, main_v11, main_v12, main_v13, main_v14, main_call0_v0, main_call0_cst, main_call0_v1, main_call0_v2, main_v15, main_cst_0, main_call1_v0, main_call1_v1, main_v16, main_v17, main_v18, main_call2_v0, main_call2_cst, main_call2_v1]
set_option maxRecDepth 8192 in
/-- The operations `ops_part0_0` write the listed buffers only. -/
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- What `main_arg0` holds after 30 operations. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- What `main_arg1` holds after 30 operations. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
/-- What `main_arg2` holds after 30 operations. -/
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
/-- What `main_arg3` holds after 30 operations. -/
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
/-- What `main_arg4` holds after 30 operations. -/
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
/-- What `main_arg5` holds after 30 operations. -/
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
/-- What `main_arg6` holds after 30 operations. -/
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
/-- What `main_arg7` holds after 30 operations. -/
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
set_option maxRecDepth 8192 in
set_option maxHeartbeats 2000000 in
/-- What `main_v12` holds after 30 operations. -/
theorem val0_1_main_v12 (V0 : Valuation τ sig (Elt F)) : val0_1 V0 (no_index (Proc.devRef .tc main_v12)) = res_main_v12 V0 := by
  unfold val0_1
  simp only [ops_part0_0, TRef.binary, TRef.nullary, TRef.unary, TRef.toBuf, TRef.ofBuf, cast_eq]
  after_results_simp
  simp only [val0_main_arg3, val0_main_arg2, val0_main_arg1, val0_main_arg0] <;> rfl
set_option maxRecDepth 8192 in
set_option maxHeartbeats 2000000 in
/-- What `main_v18` holds after 30 operations. -/
theorem val0_1_main_v18 (V0 : Valuation τ sig (Elt F)) : val0_1 V0 (no_index (Proc.devRef .tc main_v18)) = res_main_v18 V0 := by
  unfold val0_1
  simp only [ops_part0_0, TRef.binary, TRef.nullary, TRef.unary, TRef.toBuf, TRef.ofBuf, cast_eq]
  after_results_simp
  simp only [val0_main_arg3, val0_main_arg2, val0_main_arg1, val0_main_arg0] <;> rfl
set_option maxRecDepth 8192 in
set_option maxHeartbeats 2000000 in
/-- What `main_call2_v1` holds after 30 operations. -/
theorem val0_1_main_call2_v1 (V0 : Valuation τ sig (Elt F)) : val0_1 V0 (no_index (Proc.devRef .tc main_call2_v1)) = Host.reduceAdd (mulf (V0 (Proc.devRef .tc main_arg4)) (V0 (Proc.devRef .tc main_arg4))) (constant S_ .f32 0x00000000#32) reducesTo_S1024x64_S1024_d1 h_S_ := by
  unfold val0_1
  simp only [ops_part0_0, TRef.binary, TRef.nullary, TRef.unary, TRef.toBuf, TRef.ofBuf, cast_eq]
  after_results_simp
  simp only [val0_main_arg4] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call2_v2, main_v19, main_cst_1, main_call3_v0, main_call3_v1, main_v20, main_v21, main_v22, main_v23, main_cst_2, main_v24, main_v25, main_cst_3, main_v26, main_v27, main_v28, main_v29, main_v30, main_v31, main_v32, main_cst_4, main_v33, main_v34, main_v35, main_v36, main_v37, main_v38, main_call4_v0, main_call4_cst, main_call4_c]
set_option maxRecDepth 8192 in
/-- The operations `ops_part0_1` write the listed buffers only. -/
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- What `main_arg0` holds after 60 operations. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- What `main_arg1` holds after 60 operations. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- What `main_arg2` holds after 60 operations. -/
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
/-- What `main_arg3` holds after 60 operations. -/
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
/-- What `main_arg4` holds after 60 operations. -/
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
/-- What `main_arg5` holds after 60 operations. -/
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
/-- What `main_arg6` holds after 60 operations. -/
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
/-- What `main_arg7` holds after 60 operations. -/
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
/-- What `main_v12` holds after 60 operations. -/
theorem val0_2_main_v12 (V0 : Valuation τ sig (Elt F)) : val0_2 V0 (no_index (Proc.devRef .tc main_v12)) = res_main_v12 V0 :=
  (val0_2_keep V0 main_v12 (by decide)).trans (val0_1_main_v12 V0)
set_option maxRecDepth 8192 in
set_option maxHeartbeats 2000000 in
/-- What `main_v38` holds after 60 operations. -/
theorem val0_2_main_v38 (V0 : Valuation τ sig (Elt F)) : val0_2 V0 (no_index (Proc.devRef .tc main_v38)) = res_main_v38 V0 := by
  unfold val0_2
  simp only [ops_part0_1, TRef.binary, TRef.nullary, TRef.unary, TRef.toBuf, TRef.ofBuf, cast_eq]
  after_results_simp
  simp only [val0_1_main_call2_v1, val0_1_main_arg4, val0_1_main_v18] <;> rfl
set_option maxRecDepth 8192 in
set_option maxHeartbeats 2000000 in
/-- What `main_call4_v0` holds after 60 operations. -/
theorem val0_2_main_call4_v0 (V0 : Valuation τ sig (Elt F)) : val0_2 V0 (no_index (Proc.devRef .tc main_call4_v0)) = res_main_call4_v0 V0 := by
  unfold val0_2
  simp only [ops_part0_1, TRef.binary, TRef.nullary, TRef.unary, TRef.toBuf, TRef.ofBuf, cast_eq]
  after_results_simp
  all_goals rfl
set_option maxRecDepth 8192 in
set_option maxHeartbeats 2000000 in
/-- What `main_call4_cst` holds after 60 operations. -/
theorem val0_2_main_call4_cst (V0 : Valuation τ sig (Elt F)) : val0_2 V0 (no_index (Proc.devRef .tc main_call4_cst)) = res_main_call4_cst V0 := by
  unfold val0_2
  simp only [ops_part0_1, TRef.binary, TRef.nullary, TRef.unary, TRef.toBuf, TRef.ofBuf, cast_eq]
  after_results_simp
  all_goals rfl
set_option maxRecDepth 8192 in
set_option maxHeartbeats 2000000 in
/-- What `main_call4_c` holds after 60 operations. -/
theorem val0_2_main_call4_c (V0 : Valuation τ sig (Elt F)) : val0_2 V0 (no_index (Proc.devRef .tc main_call4_c)) = res_main_call4_c V0 := by
  unfold val0_2
  simp only [ops_part0_1, TRef.binary, TRef.nullary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call4_v1_0, main_v39, main_v40, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v41, main_v42, main_v43, main_v44, main_cst_5]
set_option maxRecDepth 8192 in
/-- The operations `ops_part0_2` write the listed buffers only. -/
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- What `main_arg0` holds after 90 operations. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- What `main_arg1` holds after 90 operations. -/
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
/-- What `main_arg2` holds after 90 operations. -/
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
/-- What `main_arg3` holds after 90 operations. -/
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
/-- What `main_arg4` holds after 90 operations. -/
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
/-- What `main_arg5` holds after 90 operations. -/
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
/-- What `main_arg6` holds after 90 operations. -/
theorem val0_3_main_arg6 (V0 : Valuation τ sig (Elt F)) : val0_3 V0 (no_index (Proc.devRef .tc main_arg6)) = V0 (Proc.devRef .tc main_arg6) :=
  (val0_3_keep V0 main_arg6 (by decide)).trans (val0_2_main_arg6 V0)
/-- What `main_arg7` holds after 90 operations. -/
theorem val0_3_main_arg7 (V0 : Valuation τ sig (Elt F)) : val0_3 V0 (no_index (Proc.devRef .tc main_arg7)) = V0 (Proc.devRef .tc main_arg7) :=
  (val0_3_keep V0 main_arg7 (by decide)).trans (val0_2_main_arg7 V0)
/-- What `main_v12` holds after 90 operations. -/
theorem val0_3_main_v12 (V0 : Valuation τ sig (Elt F)) : val0_3 V0 (no_index (Proc.devRef .tc main_v12)) = res_main_v12 V0 :=
  (val0_3_keep V0 main_v12 (by decide)).trans (val0_2_main_v12 V0)
section
variable (f1 : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F)) (f2 : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F))
  (f3 : (⟨S8x2048x1, .i1⟩ : BufTy).Contents (Elt F) → (⟨S_, .i1⟩ : BufTy).Contents (Elt F) → (⟨S8x2048, .i1⟩ : BufTy).Contents (Elt F)) (f4 : (⟨S1024x64, .f32⟩ : BufTy).Contents (Elt F) → (⟨S8x2048x1, .i32⟩ : BufTy).Contents (Elt F) → (⟨S8x2048x64, .f32⟩ : BufTy).Contents (Elt F)) (V : Valuation τ sig (Elt F))
/-- The code numbers after the window, whatever the four functions are. -/
def codes' : (⟨S8x2048, .i32⟩ : BufTy).Contents (Elt F) :=
  shapeCast S8x2048 (f2 (V (Proc.devRef .tc main_v38)) (V (Proc.devRef .tc main_call4_v0)) (V (Proc.devRef .tc main_call4_cst)) (V (Proc.devRef .tc main_call4_c))) shapeCasts_S16384_S8x2048
/-- The row numbers that the look-up asks for. -/
def rows' (v : (⟨S8x2048, .i32⟩ : BufTy).Contents (Elt F)) : (⟨S8x2048x1, .i32⟩ : BufTy).Contents (Elt F) :=
  broadcastInDim S8x2048x1 ![0, 1] bcast_S8x2048_S8x2048x1_0_1 (select (cmpi .slt v (broadcastInDim S8x2048 ![] bcast_S_S8x2048 (constantI S_ 32 0#32))) (addi v (broadcastInDim S8x2048 ![] bcast_S_S8x2048 (constantI S_ 32 1024#32))) v)
/-- The rows found, the latents' axis first. -/
def found' (w : (⟨S8x2048x1, .i32⟩ : BufTy).Contents (Elt F)) : (⟨S8x64x2048, .f32⟩ : BufTy).Contents (Elt F) :=
  transpose S8x64x2048 [0, 2, 1] (select (broadcastInDim S8x2048x64 ![0, 1] bcast_S8x2048_S8x2048x64_0_1 (f3 (andi (cmpi .sge w (broadcastInDim S8x2048x1 ![] bcast_S_S8x2048x1 (constantI S_ 32 0#32))) (cmpi .sle w (broadcastInDim S8x2048x1 ![0, 1, 2] bcast_S1x1x1_S8x2048x1_0_1_2 (broadcastInDim S1x1x1 ![2] bcast_S1_S1x1x1_2 (constantI S1 32 1023#32))))) (constantI S_ 1 1#1))) (f4 (V (Proc.devRef .tc main_arg4)) w) (broadcastInDim S8x2048x64 ![] bcast_S_S8x2048x64 (constant S_ .f32 0x7FC00000#32))) transposes_S8x2048x64_S8x64x2048_0_2_1
set_option maxRecDepth 8192 in
set_option maxHeartbeats 2000000 in
/-- The codes after the third window, whatever its four functions are. -/
theorem after'_main_v40 : after (ops_part0_2' f1 f2 f3 f4) V (no_index (Proc.devRef .tc main_v40)) = codes' f2 V := by
  simp only [ops_part0_2', TRef.binary, TRef.nullary, TRef.quaternary, TRef.ternary, TRef.unary, TRef.toBuf, TRef.ofBuf, cast_eq]
  after_results_simp
  all_goals rfl
set_option maxRecDepth 8192 in
set_option maxHeartbeats 2000000 in
/-- The chosen rows after the third window, whatever its four functions are. -/
theorem after'_main_v42 : after (ops_part0_2' f1 f2 f3 f4) V (no_index (Proc.devRef .tc main_v42)) = found' f3 f4 V (rows' (codes' f2 V)) := by
  simp only [ops_part0_2', TRef.binary, TRef.nullary, TRef.quaternary, TRef.ternary, TRef.unary, TRef.toBuf, TRef.ofBuf, cast_eq]
  after_results_simp
  all_goals rfl
set_option maxRecDepth 8192 in
set_option maxHeartbeats 2000000 in
/-- The squared differences after the third window, whatever its four functions are. -/
theorem after'_main_v44 : after (ops_part0_2' f1 f2 f3 f4) V (no_index (Proc.devRef .tc main_v44)) = mulf (subf (V (Proc.devRef .tc main_v12)) (found' f3 f4 V (rows' (codes' f2 V)))) (subf (V (Proc.devRef .tc main_v12)) (found' f3 f4 V (rows' (codes' f2 V)))) := by
  simp only [ops_part0_2', TRef.binary, TRef.nullary, TRef.quaternary, TRef.ternary, TRef.unary, TRef.toBuf, TRef.ofBuf, cast_eq]
  after_results_simp
  all_goals rfl
end
/-- The code numbers after the window. -/
theorem codes'_eq (V0 : Valuation τ sig (Elt F)) : codes' rowArg (val0_2 V0) = res_main_v40 V0 := by
  unfold codes'; rw [val0_2_main_v38, val0_2_main_call4_v0, val0_2_main_call4_cst, val0_2_main_call4_c]; rfl
/-- The rows found after the window. -/
theorem found'_eq (V0 : Valuation τ sig (Elt F)) :
    found' allIn rowsAt (val0_2 V0) (rows' (res_main_v40 V0)) = res_main_v42 V0 := by
  unfold found'; rw [val0_2_main_arg4]; rfl
/-- What `main_v40` holds after 90 operations. -/
theorem val0_3_main_v40 (V0 : Valuation τ sig (Elt F)) : val0_3 V0 (no_index (Proc.devRef .tc main_v40)) = res_main_v40 V0 :=
  (after'_main_v40 rowBest rowArg allIn rowsAt (val0_2 V0)).trans (codes'_eq V0)
/-- What `main_v42` holds after 90 operations. -/
theorem val0_3_main_v42 (V0 : Valuation τ sig (Elt F)) : val0_3 V0 (no_index (Proc.devRef .tc main_v42)) = res_main_v42 V0 :=
  (after'_main_v42 rowBest rowArg allIn rowsAt (val0_2 V0)).trans (by rw [codes'_eq, found'_eq])
/-- What `main_v44` holds after 90 operations. -/
theorem val0_3_main_v44 (V0 : Valuation τ sig (Elt F)) : val0_3 V0 (no_index (Proc.devRef .tc main_v44)) = mulf (res_main_v43 V0) (res_main_v43 V0) :=
  (after'_main_v44 rowBest rowArg allIn rowsAt (val0_2 V0)).trans (by rw [codes'_eq, found'_eq, val0_2_main_v12]; rfl)
set_option maxRecDepth 8192 in
set_option maxHeartbeats 2000000 in
/-- What `main_cst_5` holds after 90 operations. -/
theorem val0_3_main_cst_5 (V0 : Valuation τ sig (Elt F)) : val0_3 V0 (no_index (Proc.devRef .tc main_cst_5)) = constant S_ .f32 0x00000000#32 := by
  unfold val0_3
  simp only [ops_part0_2, ops_part0_2', TRef.binary, TRef.nullary, TRef.quaternary, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v45, main_cst_6, main_v46, main_v47, main_v48, main_v49, main_cst_7, main_v50]
set_option maxRecDepth 8192 in
/-- The operations `ops_part0_3` write the listed buffers only. -/
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
/-- What `main_arg0` holds after 98 operations. -/
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
/-- What `main_arg1` holds after 98 operations. -/
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
/-- What `main_arg2` holds after 98 operations. -/
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
/-- What `main_arg3` holds after 98 operations. -/
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
/-- What `main_arg4` holds after 98 operations. -/
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
/-- What `main_arg5` holds after 98 operations. -/
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
/-- What `main_arg6` holds after 98 operations. -/
theorem val1_main_arg6 (V0 : Valuation τ sig (Elt F)) : val1 V0 (no_index (Proc.devRef .tc main_arg6)) = V0 (Proc.devRef .tc main_arg6) :=
  (val1_keep V0 main_arg6 (by decide)).trans (val0_3_main_arg6 V0)
/-- What `main_arg7` holds after 98 operations. -/
theorem val1_main_arg7 (V0 : Valuation τ sig (Elt F)) : val1 V0 (no_index (Proc.devRef .tc main_arg7)) = V0 (Proc.devRef .tc main_arg7) :=
  (val1_keep V0 main_arg7 (by decide)).trans (val0_3_main_arg7 V0)
/-- What `main_v12` holds after 98 operations. -/
theorem val1_main_v12 (V0 : Valuation τ sig (Elt F)) : val1 V0 (no_index (Proc.devRef .tc main_v12)) = res_main_v12 V0 :=
  (val1_keep V0 main_v12 (by decide)).trans (val0_3_main_v12 V0)
/-- What `main_v40` holds after 98 operations. -/
theorem val1_main_v40 (V0 : Valuation τ sig (Elt F)) : val1 V0 (no_index (Proc.devRef .tc main_v40)) = res_main_v40 V0 :=
  (val1_keep V0 main_v40 (by decide)).trans (val0_3_main_v40 V0)
/-- What `main_v42` holds after 98 operations. -/
theorem val1_main_v42 (V0 : Valuation τ sig (Elt F)) : val1 V0 (no_index (Proc.devRef .tc main_v42)) = res_main_v42 V0 :=
  (val1_keep V0 main_v42 (by decide)).trans (val0_3_main_v42 V0)
set_option maxRecDepth 8192 in
/-- What `main_v47` holds after 98 operations. -/
theorem val1_main_v47 (V0 : Valuation τ sig (Elt F)) : val1 V0 (no_index (Proc.devRef .tc main_v47)) = Host.divf (Host.reduceAdd (mulf (res_main_v43 V0) (res_main_v43 V0)) (constant S_ .f32 0x00000000#32) reducesTo_S8x64x2048_S8_d1_2 h_S_) (broadcastInDim S8 ![] bcast_S_S8 (constant S_ .f32 0x48000000#32)) := by
  unfold val1
  simp only [ops_part0_3]
  after_results_simp
  simp only [val0_3_main_cst_5, val0_3_main_v44] <;> rfl
set_option maxRecDepth 8192 in
/-- What `main_v50` holds after 98 operations. -/
theorem val1_main_v50 (V0 : Valuation τ sig (Elt F)) : val1 V0 (no_index (Proc.devRef .tc main_v50)) = Host.reduceAdd (mulf (res_main_v48 V0) (res_main_v48 V0)) (constant S_ .f32 0x00000000#32) reducesTo_S8x64x2048_S8_d1_2 h_S_ := by
  unfold val1
  simp only [ops_part0_3]
  after_results_simp
  simp only [val0_3_main_v12, val0_3_main_v42] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_8, main_v51, main_v52, main_v53, main_v54, main_v55, main_cst_9, main_v56, main_v57, main_v58, main_v59, main_v60, main_v61, main_v62, main_v63, main_v64, main_v65, main_v66, main_v67]
set_option maxRecDepth 8192 in
/-- The operations `ops_part1` write the listed buffers only. -/
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- What `main_arg0` holds after all operations. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
/-- What `main_arg1` holds after all operations. -/
theorem val2_main_arg1 (V0 : Valuation τ sig (Elt F)) : val2 V0 (no_index (Proc.devRef .tc main_arg1)) = V0 (Proc.devRef .tc main_arg1) :=
  (val2_keep V0 main_arg1 (by decide)).trans (val1_main_arg1 V0)
/-- What `main_arg2` holds after all operations. -/
theorem val2_main_arg2 (V0 : Valuation τ sig (Elt F)) : val2 V0 (no_index (Proc.devRef .tc main_arg2)) = V0 (Proc.devRef .tc main_arg2) :=
  (val2_keep V0 main_arg2 (by decide)).trans (val1_main_arg2 V0)
/-- What `main_arg3` holds after all operations. -/
theorem val2_main_arg3 (V0 : Valuation τ sig (Elt F)) : val2 V0 (no_index (Proc.devRef .tc main_arg3)) = V0 (Proc.devRef .tc main_arg3) :=
  (val2_keep V0 main_arg3 (by decide)).trans (val1_main_arg3 V0)
/-- What `main_arg4` holds after all operations. -/
theorem val2_main_arg4 (V0 : Valuation τ sig (Elt F)) : val2 V0 (no_index (Proc.devRef .tc main_arg4)) = V0 (Proc.devRef .tc main_arg4) :=
  (val2_keep V0 main_arg4 (by decide)).trans (val1_main_arg4 V0)
/-- What `main_arg5` holds after all operations. -/
theorem val2_main_arg5 (V0 : Valuation τ sig (Elt F)) : val2 V0 (no_index (Proc.devRef .tc main_arg5)) = V0 (Proc.devRef .tc main_arg5) :=
  (val2_keep V0 main_arg5 (by decide)).trans (val1_main_arg5 V0)
/-- What `main_arg6` holds after all operations. -/
theorem val2_main_arg6 (V0 : Valuation τ sig (Elt F)) : val2 V0 (no_index (Proc.devRef .tc main_arg6)) = V0 (Proc.devRef .tc main_arg6) :=
  (val2_keep V0 main_arg6 (by decide)).trans (val1_main_arg6 V0)
/-- What `main_arg7` holds after all operations. -/
theorem val2_main_arg7 (V0 : Valuation τ sig (Elt F)) : val2 V0 (no_index (Proc.devRef .tc main_arg7)) = V0 (Proc.devRef .tc main_arg7) :=
  (val2_keep V0 main_arg7 (by decide)).trans (val1_main_arg7 V0)
/-- What `main_v12` holds after all operations. -/
theorem val2_main_v12 (V0 : Valuation τ sig (Elt F)) : val2 V0 (no_index (Proc.devRef .tc main_v12)) = res_main_v12 V0 :=
  (val2_keep V0 main_v12 (by decide)).trans (val1_main_v12 V0)
/-- What `main_v40` holds after all operations. -/
theorem val2_main_v40 (V0 : Valuation τ sig (Elt F)) : val2 V0 (no_index (Proc.devRef .tc main_v40)) = res_main_v40 V0 :=
  (val2_keep V0 main_v40 (by decide)).trans (val1_main_v40 V0)
/-- What `main_v47` holds after all operations. -/
theorem val2_main_v47 (V0 : Valuation τ sig (Elt F)) : val2 V0 (no_index (Proc.devRef .tc main_v47)) = Host.divf (Host.reduceAdd (mulf (res_main_v43 V0) (res_main_v43 V0)) (constant S_ .f32 0x00000000#32) reducesTo_S8x64x2048_S8_d1_2 h_S_) (broadcastInDim S8 ![] bcast_S_S8 (constant S_ .f32 0x48000000#32)) :=
  (val2_keep V0 main_v47 (by decide)).trans (val1_main_v47 V0)
set_option maxRecDepth 8192 in
set_option maxHeartbeats 1900000 in
/-- What `main_v52` holds after all operations. -/
theorem val2_main_v52 (V0 : Valuation τ sig (Elt F)) : val2 V0 (no_index (Proc.devRef .tc main_v52)) = Host.divf (Host.reduceAdd (mulf (res_main_v48 V0) (res_main_v48 V0)) (constant S_ .f32 0x00000000#32) reducesTo_S8x64x2048_S8_d1_2 h_S_) (broadcastInDim S8 ![] bcast_S_S8 (constant S_ .f32 0x48000000#32)) := by
  unfold val2
  simp only [ops_part1]
  after_results_simp
  simp only [val1_main_v50] <;> rfl
set_option maxRecDepth 8192 in
set_option maxHeartbeats 1900000 in
/-- What `main_v67` holds after all operations. -/
theorem val2_main_v67 (V0 : Valuation τ sig (Elt F)) : val2 V0 (no_index (Proc.devRef .tc main_v67)) = addf (transpose S8x1024x2048 [0, 2, 1] (Host.dotGeneral dot_S8x64x2048_S1024x64_S8x2048x1024_1_1_02_0_n_n none (addf (res_main_v12 V0) (subf (res_main_v42 V0) (res_main_v12 V0))) (mulf (V0 (Proc.devRef .tc main_arg5)) (broadcastInDim S1024x64 ![0, 1] bcast_S1024x1_S1024x64_0_1 (Host.divf (broadcastInDim S1024x1 ![0] bcast_S1024_S1024x1_0 (V0 (Proc.devRef .tc main_arg6))) (Host.sqrt (broadcastInDim S1024x1 ![0] bcast_S1024_S1024x1_0 (Host.reduceAdd (mulf (V0 (Proc.devRef .tc main_arg5)) (V0 (Proc.devRef .tc main_arg5))) (constant S_ .f32 0x00000000#32) reducesTo_S1024x64_S1024_d1 h_S_))))))) transposes_S8x2048x1024_S8x1024x2048_0_2_1) (broadcastInDim S8x1024x2048 ![0, 1, 2] bcast_S1x1024x1_S8x1024x2048_0_1_2 (broadcastInDim S1x1024x1 ![1] bcast_S1024_S1x1024x1_1 (V0 (Proc.devRef .tc main_arg7)))) := by
  unfold val2
  simp only [ops_part1]
  after_results_simp
  simp only [val1_main_arg7, val1_main_arg6, val1_main_arg5, val1_main_v42, val1_main_v12] <;> rfl

/-- Running all operations is running the five windows in turn. -/
theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = addf (transpose S8x1024x2048 [0, 2, 1] (Host.dotGeneral dot_S8x64x2048_S1024x64_S8x2048x1024_1_1_02_0_n_n none (addf (res_main_v12 (launchContents m c)) (subf (res_main_v42 (launchContents m c)) (res_main_v12 (launchContents m c)))) (mulf ((launchContents m c) (Proc.devRef .tc main_arg5)) (broadcastInDim S1024x64 ![0, 1] bcast_S1024x1_S1024x64_0_1 (Host.divf (broadcastInDim S1024x1 ![0] bcast_S1024_S1024x1_0 ((launchContents m c) (Proc.devRef .tc main_arg6))) (Host.sqrt (broadcastInDim S1024x1 ![0] bcast_S1024_S1024x1_0 (Host.reduceAdd (mulf ((launchContents m c) (Proc.devRef .tc main_arg5)) ((launchContents m c) (Proc.devRef .tc main_arg5))) (constant S_ .f32 0x00000000#32) reducesTo_S1024x64_S1024_d1 h_S_))))))) transposes_S8x2048x1024_S8x1024x2048_0_2_1) (broadcastInDim S8x1024x2048 ![0, 1, 2] bcast_S1x1024x1_S8x1024x2048_0_1_2 (broadcastInDim S1x1024x1 ![1] bcast_S1024_S1x1024x1_1 ((launchContents m c) (Proc.devRef .tc main_arg7))))
      ∧ r.2.mem ((c.tc : Thread nD τ).loc main_v47) = Host.divf (Host.reduceAdd (mulf (res_main_v43 (launchContents m c)) (res_main_v43 (launchContents m c))) (constant S_ .f32 0x00000000#32) reducesTo_S8x64x2048_S8_d1_2 h_S_) (broadcastInDim S8 ![] bcast_S_S8 (constant S_ .f32 0x48000000#32))
      ∧ r.2.mem ((c.tc : Thread nD τ).loc main_v52) = Host.divf (Host.reduceAdd (mulf (res_main_v48 (launchContents m c)) (res_main_v48 (launchContents m c))) (constant S_ .f32 0x00000000#32) reducesTo_S8x64x2048_S8_d1_2 h_S_) (broadcastInDim S8 ![] bcast_S_S8 (constant S_ .f32 0x48000000#32))
      ∧ r.2.mem ((c.tc : Thread nD τ).loc main_v40) = res_main_v40 (launchContents m c)
      ∧ r.2.mem ((c.tc : Thread nD τ).loc main_v12) = res_main_v12 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v67).trans ((congrFun (after_ops (launchContents m c)) (Proc.devRef .tc main_v67)).trans (val2_main_v67 (launchContents m c))),
      (h c main_v47).trans ((congrFun (after_ops (launchContents m c)) (Proc.devRef .tc main_v47)).trans (val2_main_v47 (launchContents m c))),
      (h c main_v52).trans ((congrFun (after_ops (launchContents m c)) (Proc.devRef .tc main_v52)).trans (val2_main_v52 (launchContents m c))),
      (h c main_v40).trans ((congrFun (after_ops (launchContents m c)) (Proc.devRef .tc main_v40)).trans (val2_main_v40 (launchContents m c))),
      (h c main_v12).trans ((congrFun (after_ops (launchContents m c)) (Proc.devRef .tc main_v12)).trans (val2_main_v12 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c))),
      (h c main_arg6).trans ((congrFun (after_ops (launchContents m c)) (Proc.devRef .tc main_arg6)).trans (val2_main_arg6 (launchContents m c))),
      (h c main_arg7).trans ((congrFun (after_ops (launchContents m c)) (Proc.devRef .tc main_arg7)).trans (val2_main_arg7 (launchContents m c)))⟩)
    (run_seq scopedRefs_eq scopedSems_eq defs main (fun _ => ops) main_eq (fun _ => ops_sub) m ρ fun _ => ops_fresh)

end Cert.ReferenceIdeal.Value

end
-- ==== Proof.RefPoint.lean ====
/- What the idealized reference's scores are, at an index, over the extended reals, and what its selection of a code takes. -/
module

public import proofs.«01_k».proof.Proof.RefRun
public import proofs.«01_k».proof.Proof.Spec

@[expose] public section

set_option maxRecDepth 16384

noncomputable section

namespace Cert.ReferenceIdeal.Hand

open Cert.ReferenceIdeal Cert.ReferenceIdeal.Gen Cert.ReferenceIdeal.Value Cert.Spec
open Idealize.ShloMosaic
open scoped BigOperators

variable (V0 : Valuation τ sig (Elt Ideal))

/-- The hidden states. -/
abbrev hid : FVec Ideal S8x1024x2048 .f32 := V0 (Proc.devRef .tc main_arg0)
/-- The first projection's directions. -/
abbrev vIn : FVec Ideal S64x1024 .f32 := V0 (Proc.devRef .tc main_arg1)
/-- The first projection's gains. -/
abbrev gIn : FVec Ideal S64 .f32 := V0 (Proc.devRef .tc main_arg2)
/-- The first projection's biases. -/
abbrev bIn : FVec Ideal S64 .f32 := V0 (Proc.devRef .tc main_arg3)
/-- The codebook. -/
abbrev book : FVec Ideal S1024x64 .f32 := V0 (Proc.devRef .tc main_arg4)
/-- The second projection's directions. -/
abbrev vOut : FVec Ideal S1024x64 .f32 := V0 (Proc.devRef .tc main_arg5)
/-- The second projection's gains. -/
abbrev gOut : FVec Ideal S1024 .f32 := V0 (Proc.devRef .tc main_arg6)
/-- The second projection's biases. -/
abbrev bOut : FVec Ideal S1024 .f32 := V0 (Proc.devRef .tc main_arg7)

/-- The latents at an index. -/
def lat (b : Fin 8) (d : Fin 64) (t : Fin 2048) : EReal :=
  latent (fun k t => hid V0 (ix3 b k t)) (fun d k => vIn V0 (ix2 d k)) (fun d => gIn V0 (ix1 d)) (fun d => bIn V0 (ix1 d)) d t

/-- The codebook at an index. -/
def row (k : Fin 1024) (d : Fin 64) : EReal := book V0 (ix2 k d)

/-- The row of the flattened latents that holds batch element `b` at time `t`. -/
def flat (b : Fin 8) (t : Fin 2048) : Fin 16384 := ⟨b.val * 2048 + t.val, by have := b.isLt; have := t.isLt; omega⟩

/-- The projected latents at an index. -/
theorem v12_at (b : Fin 8) (d : Fin 64) (t : Fin 2048) : res_main_v12 V0 (ix3 b d t) = lat V0 b d t := by
  unfold res_main_v12
  pointwise
  exact congrArg (· + bIn V0 (ix1 d)) (Finset.sum_congr rfl fun x _ => mul_comm _ _)

/-- The flattened latents at an index. -/
theorem v14_at (b : Fin 8) (d : Fin 64) (t : Fin 2048) : res_main_v14 V0 (ix2 (flat b t) d) = lat V0 b d t := by
  have ht := t.isLt
  unfold res_main_v14
  pointwise
  rw [← v12_at]
  refine congrArg (res_main_v12 V0) ?_
  have h1 : (flat b t).val / 2048 = b.val := by unfold flat; simp only []; omega
  have h2 : (flat b t).val % 2048 = t.val := by unfold flat; simp only []; omega
  congr 1
  · exact Fin.ext h1
  · exact Fin.ext h2

/-- The normalised latents at an index. -/
theorem v18_at (n : Fin 16384) (d : Fin 64) : res_main_v18 V0 (ix2 n d) = normed (fun d => res_main_v14 V0 (ix2 n d)) d := by
  unfold res_main_v18
  pointwise
  rw [max_comm]
  rfl

/-- The normalised codebook at an index. -/
theorem v22_at (k : Fin 1024) (d : Fin 64) : res_main_v22 V0 (ix2 k d) = normed (row V0 k) d := by
  unfold res_main_v22
  pointwise
  rw [max_comm]
  rfl

/-- The constant two is the real number two. -/
theorem two_eq : two = ((2 : ℝ) : EReal) := by
  unfold two
  simp [Ideal.ofBits, Ideal.ieee]
  norm_num
  rw [← EReal.coe_mul]
  norm_num

/-- Two times a sum is the sum of the doubled terms. -/
theorem two_mul_sum {n : ℕ} (f : Fin n → EReal) : two * ∑ i, f i = ∑ i, two * f i := by
  classical
  have h0 : (0 : EReal) ≤ two := by rw [two_eq]; exact_mod_cast (by norm_num : (0 : ℝ) ≤ 2)
  have h1 : two ≠ ⊤ := by rw [two_eq]; exact EReal.coe_ne_top _
  induction (Finset.univ : Finset (Fin n)) using Finset.induction_on with
  | empty => simp
  | insert i s hi ih => rw [Finset.sum_insert hi, Finset.sum_insert hi, EReal.left_distrib_of_nonneg_of_ne_top h0 h1, ih]

/-- The negated distances at an index. -/
theorem v38_at (n : Fin 16384) (k : Fin 1024) :
    res_main_v38 V0 (ix2 n k) = (- Spec.dist (fun d => res_main_v14 V0 (ix2 n d)) (row V0) k : EReal) := by
  unfold res_main_v38
  pointwise
  simp only [v18_at, v22_at]
  unfold Spec.dist
  rw [two_mul_sum]
  refine congrArg (fun s : EReal => (- (_ - s + _) : EReal)) (Finset.sum_congr rfl fun x _ => ?_)
  rw [mul_assoc, mul_comm (normed (row V0 k) x)]
  rfl

/-! ## The greatest entry of a row -/

/-- `p` is at least as good as `q`: greater, or equal at no later a column. -/
def Better (p q : EReal × BitVec 32) : Prop := q.1 < p.1 ∨ (q.1 = p.1 ∧ p.2.toNat ≤ q.2.toNat)

/-- Being at least as good is transitive. -/
theorem Better.trans {p q r : EReal × BitVec 32} (h : Better p q) (h' : Better q r) : Better p r := by
  rcases h with h | ⟨h, h1⟩ <;> rcases h' with h' | ⟨h', h1'⟩
  · exact .inl (h'.trans h)
  · exact .inl (h' ▸ h)
  · exact .inl (h ▸ h')
  · exact .inr ⟨h'.trans h, h1.trans h1'⟩

/-- The reducer keeps one of its two pairs, and one that is at least as good as either. -/
theorem reducer_keeps (a b : EReal × BitVec 32) (ha : a.2.toNat < 2 ^ 31) (hb : b.2.toNat < 2 ^ 31) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨x, i⟩ := a
  obtain ⟨y, j⟩ := b
  simp only at ha hb
  have hslt : i.slt j = decide (i.toNat < j.toNat) := by
    rw [BitVec.slt_eq_decide, BitVec.toInt_eq_toNat_of_lt (by omega), BitVec.toInt_eq_toNat_of_lt (by omega)]
    simp
  have hcases : reducer_argmax_f32_i32 (F := Ideal) (x, i) (y, j)
      = if y < x then (x, i) else if x = y then (if i.toNat < j.toNat then (x, i) else (y, j)) else (y, j) := by
    rcases lt_trichotomy x y with h | h | h
    · simp [reducer_argmax_f32_i32, Ideal.cmpf_def, Ideal.cmp, IntOp.ori, IntOp.andi, IntOp.cmpi, Scalar.select, h, h.not_gt, h.ne, h.ne']
    · subst h
      by_cases h2 : i.toNat < j.toNat
      · simp [reducer_argmax_f32_i32, Ideal.cmpf_def, Ideal.cmp, IntOp.ori, IntOp.andi, IntOp.cmpi, Scalar.select, hslt, h2]
      · simp [reducer_argmax_f32_i32, Ideal.cmpf_def, Ideal.cmp, IntOp.ori, IntOp.andi, IntOp.cmpi, Scalar.select, hslt, h2]
    · simp [reducer_argmax_f32_i32, Ideal.cmpf_def, Ideal.cmp, IntOp.ori, IntOp.andi, IntOp.cmpi, Scalar.select, h, h.not_gt, h.ne, h.ne']
  rw [hcases]
  split_ifs with h1 h2 h3
  · exact ⟨.inl rfl, .inr ⟨rfl, le_rfl⟩, .inl h1⟩
  · exact ⟨.inl rfl, .inr ⟨rfl, le_rfl⟩, .inr ⟨h2.symm, h3.le⟩⟩
  · exact ⟨.inr rfl, .inr ⟨h2, not_lt.1 h3⟩, .inr ⟨rfl, le_rfl⟩⟩
  · exact ⟨.inr rfl, .inl (lt_of_le_of_ne (not_lt.1 h1) h2), .inr ⟨rfl, le_rfl⟩⟩

/-- The fold of the reducer over a list keeps one pair, at least as good as all of them. -/
theorem fold_keeps (l : List (EReal × BitVec 32)) (a : EReal × BitVec 32) (ha : a.2.toNat < 2 ^ 31)
    (hl : ∀ p ∈ l, p.2.toNat < 2 ^ 31) :
    (l.foldl (reducer_argmax_f32_i32 (F := Ideal)) a = a ∨ l.foldl (reducer_argmax_f32_i32 (F := Ideal)) a ∈ l)
      ∧ Better (l.foldl (reducer_argmax_f32_i32 (F := Ideal)) a) a
      ∧ ∀ p ∈ l, Better (l.foldl (reducer_argmax_f32_i32 (F := Ideal)) a) p := by
  induction l generalizing a with
  | nil => exact ⟨.inl rfl, .inr ⟨rfl, le_rfl⟩, fun p hp => absurd hp List.not_mem_nil⟩
  | cons b l ih =>
    obtain ⟨hc, hca, hcb⟩ := reducer_keeps a b ha (hl b List.mem_cons_self)
    have hc' : (reducer_argmax_f32_i32 (F := Ideal) a b).2.toNat < 2 ^ 31 := by
      rcases hc with h | h <;> rw [h]
      · exact ha
      · exact hl b List.mem_cons_self
    obtain ⟨h1, h2, h3⟩ := ih _ hc' fun p hp => hl p (List.mem_cons_of_mem _ hp)
    rw [List.foldl_cons]
    refine ⟨?_, h2.trans hca, fun p hp => ?_⟩
    · rcases h1 with h1 | h1
      · rcases hc with h | h
        · exact .inl (h1.trans h)
        · exact .inr (by rw [h1, h]; exact List.mem_cons_self)
      · exact .inr (List.mem_cons_of_mem _ h1)
    · rcases List.mem_cons.1 hp with rfl | hp
      · exact h2.trans hcb
      · exact h3 p hp

/-- The column of the greatest entry of a row whose entries are negated values: the first least value. -/
theorem argMax_at {n0 n1 : ℕ} (hn0 : 0 < n1) (hn : n1 < 2 ^ 31) {u : Shape} (h : (⟨2, ![n0, n1]⟩ : Shape).ReducesTo [1] ⟨1, ![n0]⟩) (hu : 0 < u.numel)
    (x : (⟨2, ![n0, n1]⟩ : Shape).Idx → EReal) (y : (⟨2, ![n0, n1]⟩ : Shape).Idx → BitVec 32) (ix : u.Idx → EReal) (iy : u.Idx → BitVec 32)
    (n : Fin n0) (hy : ∀ k, y (ix2 n k) = BitVec.ofNat 32 k.val) (hix : ix (Shape.Idx.first hu) = ⊥) (hiy : iy (Shape.Idx.first hu) = 0#32)
    (f : Fin (n1) → EReal) (hx : ∀ k, x (ix2 n k) = - f k) (c : Fin (n1)) (hc : FirstMin f c) :
    (Host.argReduce (F := Ideal) (φ := .f32) (reducer_argmax_f32_i32 (F := Ideal)) x y ix iy h hu (ix1 n)).2 = BitVec.ofNat 32 c.val := by
  rw [Ideal.argReduce_eq_reduce2, Host.reduce2_eq_foldl_fiber, hix, hiy]
  have hmem : ∀ p, p ∈ Host.argReduceFiber x y h (ix1 n) ↔ ∃ k : Fin (n1), p = (- f k, BitVec.ofNat 32 k.val) := by
    intro p
    simp only [Host.argReduceFiber, List.mem_map, List.mem_filter, List.mem_finRange, true_and, decide_eq_true_eq]
    constructor
    · rintro ⟨i, hi, rfl⟩
      obtain ⟨k, hk⟩ := (h.fiber_r2_a1 (ix1 n) _).1 hi
      refine ⟨k, ?_⟩
      rw [← hk]
      exact Prod.ext (hx k) (hy k)
    · rintro ⟨k, rfl⟩
      refine ⟨Shape.rowMajor _ (ix2 n k), ?_, ?_⟩
      · rw [Equiv.symm_apply_apply]
        exact (h.fiber_r2_a1 (ix1 n) _).2 ⟨k, rfl⟩
      · rw [Equiv.symm_apply_apply]
        exact Prod.ext (hx k) (hy k)
  have hnat (k : Fin (n1)) : (BitVec.ofNat 32 k.val).toNat = k.val := by
    rw [BitVec.toNat_ofNat]; exact Nat.mod_eq_of_lt (by have := k.isLt; omega)
  obtain ⟨h1, h2, h3⟩ := fold_keeps (Host.argReduceFiber x y h (ix1 n)) ((⊥ : EReal), (0#32 : BitVec 32)) (by decide) (by
      intro p hp
      obtain ⟨k, rfl⟩ := (hmem p).1 hp
      have := k.isLt
      show (BitVec.ofNat 32 k.val).toNat < _
      rw [hnat]; omega)
  have h4 := h3 _ ((hmem _).2 ⟨c, rfl⟩)
  generalize List.foldl (reducer_argmax_f32_i32 (F := Ideal)) ((⊥ : EReal), (0#32 : BitVec 32)) _ = r at h1 h4 ⊢
  rcases h1 with rfl | h1
  · rcases h4 with h4 | ⟨h4, _⟩
    · exact absurd h4 not_lt_bot
    · have hfc : f c = ⊤ := by simpa using h4
      rcases hc ⟨0, hn0⟩ with h | ⟨_, h⟩
      · rw [hfc] at h; exact absurd h not_top_lt
      · have : c.val = 0 := Nat.le_zero.1 h
        rw [this]
  · obtain ⟨k, rfl⟩ := (hmem _).1 h1
    have : k = c := by
      rcases h4 with h4 | ⟨h4, h5⟩
      · have h4' : f k < f c := by simpa using h4
        rcases hc k with h | ⟨h, _⟩
        · exact absurd h4' h.not_gt
        · exact absurd h4' (by rw [h]; exact lt_irrefl _)
      · have h4' : f c = f k := by simpa using h4
        have h5' : k.val ≤ c.val := by
          have h6 : (BitVec.ofNat 32 k.val).toNat ≤ (BitVec.ofNat 32 c.val).toNat := h5
          rwa [hnat, hnat] at h6
        rcases hc k with h | ⟨_, h⟩
        · exact absurd h (by rw [h4']; exact lt_irrefl _)
        · exact Fin.ext (le_antisymm h5' h)
    rw [this]

end Cert.ReferenceIdeal.Hand
-- ==== Proof.RefMath.lean ====
/- What the idealized reference computes, at an index, over the extended reals. -/
module

public import proofs.«01_k».proof.Proof.RefPoint
public import proofs.«01_k».proof.Proof.Spec

@[expose] public section

set_option maxRecDepth 16384

noncomputable section

namespace Cert.ReferenceIdeal.Hand

open Cert.ReferenceIdeal Cert.ReferenceIdeal.Gen Cert.ReferenceIdeal.Value Cert.Spec
open Idealize.ShloMosaic
open scoped BigOperators

variable (V0 : Valuation τ sig (Elt Ideal))

/-- The same of the reference's own reduction. -/
theorem rowArg_at (x : FVec Ideal S16384x1024 .f32) (y : IVec S16384x1024 32) (ix : FVec Ideal S_ .f32) (iy : IVec S_ 32) (n : Fin 16384)
    (hy : ∀ k, y (ix2 n k) = BitVec.ofNat 32 k.val) (hix : ix (Shape.Idx.first h_S_) = (⊥ : EReal)) (hiy : iy (Shape.Idx.first h_S_) = 0#32)
    (f : Fin 1024 → EReal) (hx : ∀ k, x (ix2 n k) = (- f k : EReal)) (c : Fin 1024) (hc : FirstMin f c) :
    rowArg (F := Ideal) x y ix iy (ix1 n) = BitVec.ofNat 32 c.val := by
  have e : rowArg (F := Ideal) x y ix iy = fun j => (Host.argReduce (F := Ideal) (φ := .f32) (reducer_argmax_f32_i32 (F := Ideal)) x y ix iy reducesTo_S16384x1024_S16384_d1 h_S_ j).2 := rfl
  rw [e]
  exact argMax_at (n0 := 16384) (n1 := 1024) (by norm_num) (by norm_num) reducesTo_S16384x1024_S16384_d1 h_S_ x y ix iy n hy hix hiy f hx c hc

/-- A flat array of words as a matrix of 2048 columns. -/
theorem unflat_at (w : IVec S16384 32) (b : Fin 8) (t : Fin 2048) :
    shapeCast S8x2048 w shapeCasts_S16384_S8x2048 (ix2 b t) = w (ix1 (flat b t)) := by
  pointwise
  rfl

/-- The code of batch element `b` at time `t`. -/
def codeAt (b : Fin 8) (t : Fin 2048) : Fin 1024 := code (fun d => lat V0 b d t) (row V0)

/-- The codes at an index. -/
theorem v40_at (b : Fin 8) (t : Fin 2048) : res_main_v40 V0 (ix2 b t) = BitVec.ofNat 32 (codeAt V0 b t).val := by
  unfold res_main_v40
  refine (unflat_at _ b t).trans ?_
  refine rowArg_at _ _ _ _ (flat b t) (fun k => rfl) ?_ rfl (Spec.dist (fun d => lat V0 b d t) (row V0)) (fun k => ?_) (codeAt V0 b t) (code_spec _ _)
  · show Ideal.ofBits .f32 0xFF800000#32 = ⊥
    simp [Ideal.ofBits, Ideal.ieee]
  · rw [v38_at]; simp only [v14_at]

/-! ## The chosen rows -/

/-- The gather of codebook rows at an index: the row its start index names, read signed and held inside the codebook. -/
theorem rowsAt_at (x : FVec Ideal S1024x64 .f32) (i : IVec S8x2048x1 32) (b : Fin 8) (t : Fin 2048) (d : Fin 64) :
    rowsAt (F := Ideal) x i (ix3 b t d) = x (ix2 ⟨min (i (ix3 b t 0)).toInt.toNat 1023, by omega⟩ d) := by
  unfold rowsAt Host.gather
  refine congrArg x ?_
  funext a
  refine Fin.ext ?_
  have hb : (gather_S1024x64_S8x2048x1_S8x2048x64_2_0_n_n_0_2_164).batchCoord (ix3 b t d) a = 0 :=
    GatherDims.batchCoord_eq_zero _ _ _ List.not_mem_nil
  match a with
  | ⟨0, _⟩ =>
    show (gather_S1024x64_S8x2048x1_S8x2048x64_2_0_n_n_0_2_164).start (ix3 b t d) i 0
      + (gather_S1024x64_S8x2048x1_S8x2048x64_2_0_n_n_0_2_164).batchCoord (ix3 b t d) 0
      + (gather_S1024x64_S8x2048x1_S8x2048x64_2_0_n_n_0_2_164).offCoord (ix3 b t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1024x64_S8x2048x1_S8x2048x64_2_0_n_n_0_2_164).startIndexMap from List.mem_singleton.mpr rfl)]
    have hsi : (gather_S1024x64_S8x2048x1_S8x2048x64_2_0_n_n_0_2_164).siIdx (ix3 b t d)
        ⟨List.idxOf (0 : Fin 2) (gather_S1024x64_S8x2048x1_S8x2048x64_2_0_n_n_0_2_164).startIndexMap,
          List.idxOf_lt_length_iff.2 (List.mem_singleton.mpr rfl)⟩ = ix3 b t 0 := by
      funext e; refine Fin.ext ?_
      match e with
      | ⟨0, _⟩ => rfl
      | ⟨1, _⟩ => rfl
      | ⟨2, _⟩ => rfl
    rw [hsi]
    rfl
  | ⟨1, _⟩ =>
    show (gather_S1024x64_S8x2048x1_S8x2048x64_2_0_n_n_0_2_164).start (ix3 b t d) i 1
      + (gather_S1024x64_S8x2048x1_S8x2048x64_2_0_n_n_0_2_164).batchCoord (ix3 b t d) 1
      + (gather_S1024x64_S8x2048x1_S8x2048x64_2_0_n_n_0_2_164).offCoord (ix3 b t d) 1 = _
    rw [GatherDims.batchCoord_eq_zero _ _ _ List.not_mem_nil]
    unfold GatherDims.start GatherDims.offCoord
    rw [dif_neg (show (1 : Fin 2) ∉ (gather_S1024x64_S8x2048x1_S8x2048x64_2_0_n_n_0_2_164).startIndexMap from
      fun h => absurd (List.mem_singleton.mp h) (by decide)),
      dif_pos ((GatherDims.mem_sKept _ _).mpr ⟨fun h => absurd (List.mem_singleton.mp h) (by decide), List.not_mem_nil⟩)]
    simp only [Nat.zero_add]
    rfl

/-- A row number as a word, read back signed. -/
theorem toInt_row (c : Fin 1024) : (BitVec.ofNat 32 c.val).toInt = (c.val : ℤ) := by
  have hc := c.isLt
  have h : (BitVec.ofNat 32 c.val).toNat = c.val := by
    rw [BitVec.toNat_ofNat]; exact Nat.mod_eq_of_lt (by omega)
  rw [BitVec.toInt_eq_toNat_of_lt (by omega), h]

/-- The row numbers the gather reads are the codes. -/
theorem start_at (b : Fin 8) (t : Fin 2048) : res_main_call5_v5 V0 (ix3 b t 0) = BitVec.ofNat 32 (codeAt V0 b t).val := by
  unfold res_main_call5_v5
  pointwise
  simp only [v40_at]
  generalize codeAt V0 b t = c
  have h : IntOp.cmpi .slt (BitVec.ofNat 32 c.val) 0#32 = 0#1 := by
    have h0 : ¬ (c.val : ℤ) < 0 := by omega
    simp [IntOp.cmpi, BitVec.slt_eq_decide, toInt_row, h0]
  rw [h]
  rfl

/-- A row number is not below 0. -/
theorem low_at (c : Fin 1024) : IntOp.cmpi .sge (BitVec.ofNat 32 c.val) 0#32 = 1#1 := by
  simp [IntOp.cmpi, BitVec.sle_eq_decide, toInt_row]

/-- A row number is not above 1023. -/
theorem high_at (c : Fin 1024) : IntOp.cmpi .sle (BitVec.ofNat 32 c.val) 1023#32 = 1#1 := by
  have h : (1023#32 : BitVec 32).toInt = 1023 := by decide
  have h0 : (c.val : ℤ) ≤ 1023 := by omega
  simp [IntOp.cmpi, BitVec.sle_eq_decide, toInt_row, h, h0]

/-- A row number held inside the codebook is itself. -/
theorem held (c : Fin 1024) : min (BitVec.ofNat 32 c.val).toInt.toNat 1023 = c.val := by
  rw [toInt_row]
  omega

/-- The row gathered at a start index that is a row number. -/
theorem picked_at (x : FVec Ideal S1024x64 .f32) (i : IVec S8x2048x1 32) (b : Fin 8) (t : Fin 2048) (d : Fin 64) (c : Fin 1024)
    (h : i (ix3 b t 0) = BitVec.ofNat 32 c.val) : rowsAt (F := Ideal) x i (ix3 b t d) = x (ix2 c d) := by
  refine (rowsAt_at x i b t d).trans (congrArg x (congrArg (ix2 · d) (Fin.ext ?_)))
  show min (i (ix3 b t 0)).toInt.toNat 1023 = c.val
  rw [h]
  exact held c

/-- The chosen rows at an index. -/
theorem v42_at (b : Fin 8) (d : Fin 64) (t : Fin 2048) : res_main_v42 V0 (ix3 b d t) = row V0 (codeAt V0 b t) d := by
  unfold res_main_v42 allIn
  pointwise
  rw [Finset.univ_unique, Finset.fold_singleton, show (default : Fin 1) = 0 from rfl, start_at, low_at, high_at]
  refine Eq.trans ?_ (picked_at (book V0) (res_main_call5_v5 V0) b t d (codeAt V0 b t) (start_at V0 b t))
  generalize rowsAt (F := Ideal) (book V0) (res_main_call5_v5 V0) (ix3 b t d) = r
  rfl

/-! ## The losses and the output -/

/-- The first loss at an index. -/
theorem loss1_at (b : Fin 8) :
    Host.divf (Host.reduceAdd (mulf (res_main_v43 V0) (res_main_v43 V0)) (constant S_ .f32 0x00000000#32) reducesTo_S8x64x2048_S8_d1_2 h_S_) (broadcastInDim S8 ![] bcast_S_S8 (constant S_ .f32 0x48000000#32)) (ix1 b)
      = loss (fun d t => lat V0 b d t) (row V0) := by
  unfold res_main_v43
  pointwise
  simp only [v12_at, v42_at]
  rfl

/-- Swapping a difference's terms leaves its square as it was. -/
theorem sq_sub_comm (x y : EReal) : (x - y) * (x - y) = (y - x) * (y - x) := by
  induction x <;> induction y <;> try rfl
  · rename_i a b
    have e : ((b : EReal) - a) = ((b - a : ℝ) : EReal) := rfl
    have e' : ((a : EReal) - b) = ((a - b : ℝ) : EReal) := rfl
    rw [e, e', ← EReal.coe_mul, ← EReal.coe_mul]
    congr 1
    ring

/-- The second loss at an index. -/
theorem loss2_at (b : Fin 8) :
    Host.divf (Host.reduceAdd (mulf (res_main_v48 V0) (res_main_v48 V0)) (constant S_ .f32 0x00000000#32) reducesTo_S8x64x2048_S8_d1_2 h_S_) (broadcastInDim S8 ![] bcast_S_S8 (constant S_ .f32 0x48000000#32)) (ix1 b)
      = loss (fun d t => lat V0 b d t) (row V0) := by
  unfold res_main_v48
  pointwise
  simp only [v12_at, v42_at]
  refine congrArg (fun s => Ideal.div s _) (Finset.sum_congr rfl fun d _ => Finset.sum_congr rfl fun t _ => ?_)
  exact sq_sub_comm _ _

/-- Adding a difference back to a real number gives the other term. -/
theorem add_sub_real (p q : EReal) (h1 : p ≠ ⊤) (h2 : p ≠ ⊥) : p + (q - p) = q := by
  lift p to ℝ using ⟨h1, h2⟩
  induction q
  · simp
  · rename_i q
    have e : ((q : EReal) - p) = ((q - p : ℝ) : EReal) := rfl
    rw [e, ← EReal.coe_add]
    congr 1
    ring
  · simp

/-- The output at an index, the latents being real numbers. -/
theorem out_at (b : Fin 8) (l : Fin 1024) (t : Fin 2048) (hfin : ∀ b d t, lat V0 b d t ≠ ⊤ ∧ lat V0 b d t ≠ ⊥) :
    addf (transpose S8x1024x2048 [0, 2, 1] (Host.dotGeneral dot_S8x64x2048_S1024x64_S8x2048x1024_1_1_02_0_n_n none (addf (res_main_v12 V0) (subf (res_main_v42 V0) (res_main_v12 V0))) (mulf (V0 (Proc.devRef .tc main_arg5)) (broadcastInDim S1024x64 ![0, 1] bcast_S1024x1_S1024x64_0_1 (Host.divf (broadcastInDim S1024x1 ![0] bcast_S1024_S1024x1_0 (V0 (Proc.devRef .tc main_arg6))) (Host.sqrt (broadcastInDim S1024x1 ![0] bcast_S1024_S1024x1_0 (Host.reduceAdd (mulf (V0 (Proc.devRef .tc main_arg5)) (V0 (Proc.devRef .tc main_arg5))) (constant S_ .f32 0x00000000#32) reducesTo_S1024x64_S1024_d1 h_S_))))))) transposes_S8x2048x1024_S8x1024x2048_0_2_1) (broadcastInDim S8x1024x2048 ![0, 1, 2] bcast_S1x1024x1_S8x1024x2048_0_1_2 (broadcastInDim S1x1024x1 ![1] bcast_S1024_S1x1024x1_1 (V0 (Proc.devRef .tc main_arg7)))) (ix3 b l t)
      = out (fun d t => lat V0 b d t) (row V0) (fun l d => vOut V0 (ix2 l d)) (fun l => gOut V0 (ix1 l)) (fun l => bOut V0 (ix1 l)) l t := by
  pointwise
  simp only [v12_at, v42_at]
  refine congrArg (· + bOut V0 (ix1 l)) (Finset.sum_congr rfl fun d _ => ?_)
  rw [add_sub_real _ _ (hfin b d t).1 (hfin b d t).2]
  exact mul_comm _ _

end Cert.ReferenceIdeal.Hand
-- ==== Proof.Finite.lean ====
/- What the precondition says of the projected latents: they are real numbers. -/
module

public import proofs.«01_k».proof.Pre_unique_code
public import proofs.«01_k».proof.Proof.Gen.Pre_unique_code
public import proofs.«01_k».proof.Proof.Spec

@[expose] public section

set_option maxRecDepth 16384

noncomputable section

namespace Cert.Pre_unique_code.Hand

open Cert.Pre_unique_code Cert.Pre_unique_code.Gen Cert.Spec
open Idealize.ShloMosaic
open scoped BigOperators

variable (a0 : FVec Ideal S8x1024x2048 .f32) (a1 : FVec Ideal S64x1024 .f32) (a2 a3 : FVec Ideal S64 .f32)
  (a4 a5 : FVec Ideal S1024x64 .f32) (a6 a7 : FVec Ideal S1024 .f32)

/-- The projected latents as the precondition forms them. -/
def proj : FVec Ideal S8x64x2048 .f32 :=
  addf (transpose S8x64x2048 [0, 2, 1] (Host.dotGeneral dot_S8x1024x2048_S64x1024_S8x2048x64_1_1_02_0_n_n none a0 (mulf a1 (broadcastInDim S64x1024 ![0, 1] Facts.bcast_S64x1_S64x1024_0_1 (Host.divf (broadcastInDim S64x1 ![0] Facts.bcast_S64_S64x1_0 a2) (Host.sqrt (broadcastInDim S64x1 ![0] Facts.bcast_S64_S64x1_0 (Host.reduceAdd (mulf a1 a1) (constant S_ .f32 0x00000000#32) Facts.reducesTo_S64x1024_S64_d1 Facts.h_S_))))))) Facts.transposes_S8x2048x64_S8x64x2048_0_2_1) (broadcastInDim S8x64x2048 ![0, 1, 2] Facts.bcast_S1x64x1_S8x64x2048_0_1_2 (broadcastInDim S1x64x1 ![1] Facts.bcast_S64_S1x64x1_1 a3))

/-- They are the latents. -/
theorem proj_at (b : Fin 8) (d : Fin 64) (t : Fin 2048) :
    proj a0 a1 a2 a3 (ix3 b d t) = latent (fun k t => a0 (ix3 b k t)) (fun d k => a1 (ix2 d k)) (fun d => a2 (ix1 d)) (fun d => a3 (ix1 d)) d t := by
  unfold proj
  pointwise
  exact congrArg (· + a3 (ix1 d)) (Finset.sum_congr rfl fun x _ => mul_comm _ _)

/-- The precondition's last part at an index is a conjunction whose first term compares the latent's magnitude with ∞. -/
theorem part2_at (p : FVec Ideal S8x64x2048 .f32) (v w : FVec Ideal S16384x1024 .f32) (i : S8x64x2048.Idx) :
    ∃ x : BitVec 1, fn_part2 (F := Ideal) p v w i = IntOp.andi (Ideal.cmp .olt (max (p i) (-(p i))) (Ideal.ofBits .f32 0x7F800000#32)) x :=
  ⟨_, rfl⟩

/-- The precondition's value is its last part at the latents. -/
theorem fn_eq : ∃ v w, fn (F := Ideal) a0 a1 a2 a3 a4 a5 a6 a7 = fn_part2 (F := Ideal) (proj a0 a1 a2 a3) v w :=
  ⟨_, _, rfl⟩

/-- A conjunction of two bits that is 1 has 1 as its first. -/
theorem and_left : ∀ x y : BitVec 1, IntOp.andi x y = 1#1 → x = 1#1 := by decide

/-- Under the precondition every latent is a real number. -/
theorem finite (h : fn (F := Ideal) a0 a1 a2 a3 a4 a5 a6 a7 = fun _ => 1#1) (b : Fin 8) (d : Fin 64) (t : Fin 2048) :
    latent (fun k t => a0 (ix3 b k t)) (fun d k => a1 (ix2 d k)) (fun d => a2 (ix1 d)) (fun d => a3 (ix1 d)) d t ≠ ⊤
      ∧ latent (fun k t => a0 (ix3 b k t)) (fun d k => a1 (ix2 d k)) (fun d => a2 (ix1 d)) (fun d => a3 (ix1 d)) d t ≠ ⊥ := by
  obtain ⟨v, w, e⟩ := fn_eq a0 a1 a2 a3 a4 a5 a6 a7
  obtain ⟨x, hx⟩ := part2_at (proj a0 a1 a2 a3) v w (ix3 b d t)
  have h1 := and_left _ _ ((hx.symm.trans (congrFun e (ix3 b d t)).symm).trans (congrFun h (ix3 b d t)))
  rw [proj_at] at h1
  generalize latent (fun k t => a0 (ix3 b k t)) (fun d k => a1 (ix2 d k)) (fun d => a2 (ix1 d)) (fun d => a3 (ix1 d)) d t = p at h1 ⊢
  have htop : Ideal.ofBits .f32 0x7F800000#32 = ⊤ := by simp [Ideal.ofBits, Ideal.ieee]
  rw [htop] at h1
  constructor
  · rintro rfl
    simp [Ideal.cmp] at h1
  · rintro rfl
    simp [Ideal.cmp] at h1

end Cert.Pre_unique_code.Hand
-- ==== Proof.Final.lean ====
/- The idealized kernel and the idealized reference compute the same five results. -/
module

public import proofs.«01_k».proof.Proof.KernelSpec
public import proofs.«01_k».proof.Proof.RefMath
public import proofs.«01_k».proof.Proof.Finite

@[expose] public section

set_option maxRecDepth 16384

noncomputable section

namespace Cert.Final

open Cert.Spec Cert.ReferenceIdeal.Hand Cert.ReferenceIdeal.Value Cert.KernelIdeal.Hand
open Idealize.ShloMosaic Idealize.ShloMosaic.TcCoe
open scoped BigOperators

variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The arguments the reference reads are the kernel's. -/
structure Agree : Prop where
  hid : Cert.ReferenceIdeal.Hand.hid V0 = aHid m c
  vIn : Cert.ReferenceIdeal.Hand.vIn V0 = aVIn m c
  gIn : Cert.ReferenceIdeal.Hand.gIn V0 = aGIn m c
  bIn : Cert.ReferenceIdeal.Hand.bIn V0 = aBIn m c
  book : Cert.ReferenceIdeal.Hand.book V0 = aBook m c
  vOut : Cert.ReferenceIdeal.Hand.vOut V0 = aVOut m c
  gOut : Cert.ReferenceIdeal.Hand.gOut V0 = aGOut m c
  bOut : Cert.ReferenceIdeal.Hand.bOut V0 = aBOut m c

variable {V0 m c}

/-- The latents agree. -/
theorem lat_eq (h : Agree V0 m c) (b : Fin 8) : (fun d t => lat V0 b d t) = latM m c b := by
  funext d t
  unfold lat latM
  rw [h.hid, h.vIn, h.gIn, h.bIn]

/-- The codebooks agree. -/
theorem row_eq (h : Agree V0 m c) : row V0 = rowM m c := by
  funext k d
  unfold row rowM
  rw [h.book]

/-- The fifth results agree. -/
theorem proj_eq (h : Agree V0 m c) : res_main_v12 V0 = resProj m c := by
  funext j
  obtain ⟨b, d, t, rfl⟩ : ∃ b d t, j = ix3 b d t := ⟨_, _, _, eq_ix3 j⟩
  exact ((v12_at V0 b d t).trans (congrFun (congrFun (lat_eq h b) d) t)).trans (resProj_at m c b d t).symm

/-- The fourth results agree. -/
theorem idx_eq (h : Agree V0 m c) : res_main_v40 V0 = resIdx m c := by
  funext j
  obtain ⟨b, t, rfl⟩ : ∃ b t, j = ix2 b t := ⟨_, _, eq_ix2 j⟩
  refine ((v40_at V0 b t).trans ?_).trans (resIdx_at m c b t).symm
  unfold codeAt
  rw [row_eq h, show (fun d => lat V0 b d t) = fun d => latM m c b d t from funext fun d => congrFun (congrFun (lat_eq h b) d) t]

open Cert.ReferenceIdeal Cert.ReferenceIdeal.Gen in
/-- The second results agree. -/
theorem loss1_eq (h : Agree V0 m c) :
    Host.divf (Host.reduceAdd (mulf (res_main_v43 V0) (res_main_v43 V0)) (constant S_ .f32 0x00000000#32) reducesTo_S8x64x2048_S8_d1_2 h_S_) (broadcastInDim S8 ![] bcast_S_S8 (constant S_ .f32 0x48000000#32))
      = resLoss m c := by
  funext j
  obtain ⟨b, rfl⟩ : ∃ b, j = ix1 b := ⟨_, eq_ix1 j⟩
  refine ((loss1_at V0 b).trans ?_).trans (resLoss_at m c b).symm
  rw [row_eq h, lat_eq h]

open Cert.ReferenceIdeal Cert.ReferenceIdeal.Gen in
/-- The third results agree. -/
theorem loss2_eq (h : Agree V0 m c) :
    Host.divf (Host.reduceAdd (mulf (res_main_v48 V0) (res_main_v48 V0)) (constant S_ .f32 0x00000000#32) reducesTo_S8x64x2048_S8_d1_2 h_S_) (broadcastInDim S8 ![] bcast_S_S8 (constant S_ .f32 0x48000000#32))
      = resLoss m c := by
  funext j
  obtain ⟨b, rfl⟩ : ∃ b, j = ix1 b := ⟨_, eq_ix1 j⟩
  refine ((loss2_at V0 b).trans ?_).trans (resLoss_at m c b).symm
  rw [row_eq h, lat_eq h]

open Cert.ReferenceIdeal Cert.ReferenceIdeal.Gen in
/-- The first results agree, the latents being real numbers. -/
theorem out_eq (h : Agree V0 m c) (hfin : ∀ b d t, latM m c b d t ≠ ⊤ ∧ latM m c b d t ≠ ⊥) :
    addf (transpose S8x1024x2048 [0, 2, 1] (Host.dotGeneral dot_S8x64x2048_S1024x64_S8x2048x1024_1_1_02_0_n_n none (addf (res_main_v12 V0) (subf (res_main_v42 V0) (res_main_v12 V0))) (mulf (V0 (Proc.devRef .tc main_arg5)) (broadcastInDim S1024x64 ![0, 1] bcast_S1024x1_S1024x64_0_1 (Host.divf (broadcastInDim S1024x1 ![0] bcast_S1024_S1024x1_0 (V0 (Proc.devRef .tc main_arg6))) (Host.sqrt (broadcastInDim S1024x1 ![0] bcast_S1024_S1024x1_0 (Host.reduceAdd (mulf (V0 (Proc.devRef .tc main_arg5)) (V0 (Proc.devRef .tc main_arg5))) (constant S_ .f32 0x00000000#32) reducesTo_S1024x64_S1024_d1 h_S_))))))) transposes_S8x2048x1024_S8x1024x2048_0_2_1) (broadcastInDim S8x1024x2048 ![0, 1, 2] bcast_S1x1024x1_S8x1024x2048_0_1_2 (broadcastInDim S1x1024x1 ![1] bcast_S1024_S1x1024x1_1 (V0 (Proc.devRef .tc main_arg7))))
      = resOut m c := by
  funext j
  obtain ⟨b, l, t, rfl⟩ : ∃ b l t, j = ix3 b l t := ⟨_, _, _, eq_ix3 j⟩
  have hl (b : Fin 8) (d : Fin 64) (t : Fin 2048) : lat V0 b d t = latM m c b d t := congrFun (congrFun (lat_eq h b) d) t
  refine ((out_at V0 b l t fun b d t => by rw [hl]; exact hfin b d t).trans ?_).trans (resOut_at m c b l t).symm
  rw [row_eq h, lat_eq h, h.vOut, h.gOut, h.bOut]

end Cert.Final
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_unique_code
public import proofs.«01_k».proof.Proof.KernelFrame
public import proofs.«01_k».proof.Proof.Final
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- Every run of the idealized kernel leaves its arguments unchanged and ends with every counter at zero. -/
theorem frame_i : Cert.quiescent_KernelIdeal := fun m ρ _ =>
  (θ_run _ _ _).mono (fun _ h => ⟨fun c => (h.1 c).2.2.2.2.2, h.2⟩) (Cert.KernelIdeal.Hand.run_values (F := Ideal) m ρ)

/-- Every run of the idealized reference leaves its arguments unchanged; it has no counters. -/
theorem frame_r : Cert.quiescent_ReferenceIdeal := fun m ρ _ =>
  (θ_run _ _ _).mono (fun r h => ⟨fun c => (h c).2.2.2.2.2, sem_eq_zero_of_no_sems (by decide) r.2⟩)
    (Cert.ReferenceIdeal.Value.run (F := Ideal) m ρ)

/-- The two programs' results are equal. -/
theorem values : Cert.algebraic_KernelIdeal_ReferenceIdeal := by
  intro m g m' g' hpre hargs
  have ag (c : Dev Cert.KernelIdeal.nD) : Cert.Final.Agree (StableHlo.launchContents m' c) m c := by
    obtain ⟨h0, h1, h2, h3, h4, h5, h6, h7⟩ := hargs c
    exact ⟨h0, h1, h2, h3, h4, h5, h6, h7⟩
  have hfin (c : Dev Cert.KernelIdeal.nD) (b : Fin 8) (d : Fin 64) (t : Fin 2048) :
      Cert.KernelIdeal.Hand.latM m c b d t ≠ ⊤ ∧ Cert.KernelIdeal.Hand.latM m c b d t ≠ ⊥ :=
    Cert.Pre_unique_code.Hand.finite _ _ _ _ _ _ _ _ (hpre c) b d t
  refine ⟨Cert.KernelIdeal.Hand.resOut m, Cert.KernelIdeal.Hand.resLoss m, Cert.KernelIdeal.Hand.resLoss m,
    Cert.KernelIdeal.Hand.resIdx m, Cert.KernelIdeal.Hand.resProj m,
    (θ_run _ _ _).mono (fun _ h => h.1) (Cert.KernelIdeal.Hand.run_values (F := Ideal) m g),
    (θ_run _ _ _).mono (fun _ h c => ?_) (Cert.ReferenceIdeal.Value.run (F := Ideal) m' g')⟩
  obtain ⟨h0, h1, h2, h3, h4, h⟩ := h c
  exact ⟨h0.trans (Cert.Final.out_eq (ag c) (hfin c)), h1.trans (Cert.Final.loss1_eq (ag c)), h2.trans (Cert.Final.loss2_eq (ag c)),
    h3.trans (Cert.Final.idx_eq (ag c)), h4.trans (Cert.Final.proj_eq (ag c)), h⟩

/-- Everything the certificate claims. -/
theorem claim : Cert.Claim :=
  ⟨Cert.Kernel.Gen.facts, Cert.KernelIdeal.Gen.facts, Cert.ReferenceIdeal.Gen.facts, Cert.Pre_unique_code.Gen.facts,
    fun m ρ _ => Cert.Kernel.Hand.frame_run (F := Bits) m ρ, fun m ρ _ => Cert.Kernel.Hand.frame_run (F := Bits) m ρ, frame_i, frame_r,
    fun m ρ _ => frame_r m ρ trivial, trivial, values⟩

end Cert.Proof

end
